-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph [hPre_graph : Cert.Pre_graph.Facts] (m : (ℓ : Loc Cert.KernelIdeal.nD Cert.KernelIdeal.τ Cert.KernelIdeal.sig) → Buf (Elt Ideal) ℓ) : Prop :=
  ∀ c : Dev Cert.KernelIdeal.nD,
    (Cert.Pre_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph [hPre_graph : Cert.Pre_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_graph [hKernelIdeal : Cert.KernelIdeal.Facts] [hPre_graph : Cert.Pre_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_graph [hReferenceIdeal : Cert.ReferenceIdeal.Facts] [hPre_graph : Cert.Pre_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_graph [hKernelIdeal : Cert.KernelIdeal.Facts] [hReferenceIdeal : Cert.ReferenceIdeal.Facts] [hPre_graph : Cert.Pre_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_graph : Cert.Pre_graph.Facts),
    quiescent_Kernel (hKernel := hKernel)
    ∧ quiescent_KernelIdeal (hKernelIdeal := hKernelIdeal)
    ∧ quiescent_KernelIdeal_pre_graph (hKernelIdeal := hKernelIdeal) (hPre_graph := hPre_graph)
    ∧ quiescent_ReferenceIdeal (hReferenceIdeal := hReferenceIdeal)
    ∧ quiescent_ReferenceIdeal_pre_graph (hReferenceIdeal := hReferenceIdeal) (hPre_graph := hPre_graph)
    ∧ preserves_Kernel_KernelIdeal
    ∧ algebraic_KernelIdeal_ReferenceIdeal_pre_graph (hKernelIdeal := hKernelIdeal) (hReferenceIdeal := hReferenceIdeal) (hPre_graph := hPre_graph)
-- ==== Pre_graph.lean ====
abbrev S8x4096x1 : Shape := ⟨3, ![8, 4096, 1]⟩
abbrev S4096x4096 : Shape := ⟨2, ![4096, 4096]⟩
abbrev S5x1x10 : Shape := ⟨3, ![5, 1, 10]⟩
abbrev S10 : Shape := ⟨1, ![10]⟩
abbrev S5x10x10 : Shape := ⟨3, ![5, 10, 10]⟩
abbrev S40960x10 : Shape := ⟨2, ![40960, 10]⟩
abbrev S_ : Shape := ⟨0, ![]⟩

class Facts : Prop where
  transposes_S4096x4096_S4096x4096_1_0 : S4096x4096.Transposes [1, 0] S4096x4096
  reducesTo_S4096x4096_S_d0_1 : S4096x4096.ReducesTo [0, 1] S_
  h_S_ : 0 < S_.numel
  bcast_S_S8x4096x1 : S_.BroadcastsInDim S8x4096x1 (![] : Fin 0 → Fin S8x4096x1.rank)
  reducesTo_S8x4096x1_S_d0_1_2 : S8x4096x1.ReducesTo [0, 1, 2] S_
  bcast_S_S4096x4096 : S_.BroadcastsInDim S4096x4096 (![] : Fin 0 → Fin S4096x4096.rank)
  bcast_S_S5x1x10 : S_.BroadcastsInDim S5x1x10 (![] : Fin 0 → Fin S5x1x10.rank)
  reducesTo_S5x1x10_S_d0_1_2 : S5x1x10.ReducesTo [0, 1, 2] S_
  bcast_S_S10 : S_.BroadcastsInDim S10 (![] : Fin 0 → Fin S10.rank)
  reducesTo_S10_S_d0 : S10.ReducesTo [0] S_
  bcast_S_S5x10x10 : S_.BroadcastsInDim S5x10x10 (![] : Fin 0 → Fin S5x10x10.rank)
  reducesTo_S5x10x10_S_d0_1_2 : S5x10x10.ReducesTo [0, 1, 2] S_
  bcast_S_S40960x10 : S_.BroadcastsInDim S40960x10 (![] : Fin 0 → Fin S40960x10.rank)
  reducesTo_S40960x10_S_d0_1 : S40960x10.ReducesTo [0, 1] S_

variable [Facts]

def fn_part3 {F : FTy → Type} [FloatOps F] (main_v47 : IVec S_ 1) (main_v50 : IVec S10 1) (main_c_18 : IVec S_ 1) : IVec S_ 1 :=
  let main_v51 : IVec S_ 1 := (fun x v => Host.reduce IntOp.andi x v reducesTo_S10_S_d0 h_S_) main_v50 main_c_18
  let main_v52 : IVec S_ 1 := andi main_v47 main_v51
  main_v52

def fn_part2 {F : FTy → Type} [FloatOps F] (main_arg7 : FVec F S10 .f32) (main_arg8 : FVec F S40960x10 .f32) (main_arg9 : FVec F S10 .f32) (main_v32 : IVec S_ 1) (main_v33 : FVec F S5x10x10 .f32) (main_cst_11 : FVec F S_ .f32) : IVec S_ 1 :=
  let main_v34 : FVec F S5x10x10 .f32 := broadcastInDim S5x10x10 ![] bcast_S_S5x10x10 main_cst_11
  let main_v35 : IVec S5x10x10 1 := cmpf .olt main_v33 main_v34
  let main_c_12 : IVec S_ 1 := constantI S_ 1 1#1
  let main_v36 : IVec S_ 1 := (fun x v => Host.reduce IntOp.andi x v reducesTo_S5x10x10_S_d0_1_2 h_S_) main_v35 main_c_12
  let main_v37 : IVec S_ 1 := andi main_v32 main_v36
  let main_v38 : FVec F S10 .f32 := Host.absf main_arg7
  let main_cst_13 : FVec F S_ .f32 := constant S_ .f32 0x7F800000#32
  let main_v39 : FVec F S10 .f32 := broadcastInDim S10 ![] bcast_S_S10 main_cst_13
  let main_v40 : IVec S10 1 := cmpf .olt main_v38 main_v39
  let main_c_14 : IVec S_ 1 := constantI S_ 1 1#1
  let main_v41 : IVec S_ 1 := (fun x v => Host.reduce IntOp.andi x v reducesTo_S10_S_d0 h_S_) main_v40 main_c_14
  let main_v42 : IVec S_ 1 := andi main_v37 main_v41
  let main_v43 : FVec F S40960x10 .f32 := Host.absf main_arg8
  let main_cst_15 : FVec F S_ .f32 := constant S_ .f32 0x7F800000#32
  let main_v44 : FVec F S40960x10 .f32 := broadcastInDim S40960x10 ![] bcast_S_S40960x10 main_cst_15
  let main_v45 : IVec S40960x10 1 := cmpf .olt main_v43 main_v44
  let main_c_16 : IVec S_ 1 := constantI S_ 1 1#1
  let main_v46 : IVec S_ 1 := (fun x v => Host.reduce IntOp.andi x v reducesTo_S40960x10_S_d0_1 h_S_) main_v45 main_c_16
  let main_v47 : IVec S_ 1 := andi main_v42 main_v46
  let main_v48 : FVec F S10 .f32 := Host.absf main_arg9
  let main_cst_17 : FVec F S_ .f32 := constant S_ .f32 0x7F800000#32
  let main_v49 : FVec F S10 .f32 := broadcastInDim S10 ![] bcast_S_S10 main_cst_17
  let main_v50 : IVec S10 1 := cmpf .olt main_v48 main_v49
  let main_c_18 : IVec S_ 1 := constantI S_ 1 1#1
  fn_part3 (F := F) main_v47 main_v50 main_c_18

def fn_part1 {F : FTy → Type} [FloatOps F] (main_arg3 : FVec F S10 .f32) (main_arg4 : FVec F S5x10x10 .f32) (main_arg5 : FVec F S10 .f32) (main_arg6 : FVec F S5x10x10 .f32) (main_arg7 : FVec F S10 .f32) (main_arg8 : FVec F S40960x10 .f32) (main_arg9 : FVec F S10 .f32) (main_v12 : IVec S_ 1) (main_v16 : IVec S_ 1) : IVec S_ 1 :=
  let main_v17 : IVec S_ 1 := andi main_v12 main_v16
  let main_v18 : FVec F S10 .f32 := Host.absf main_arg3
  let main_cst_5 : FVec F S_ .f32 := constant S_ .f32 0x7F800000#32
  let main_v19 : FVec F S10 .f32 := broadcastInDim S10 ![] bcast_S_S10 main_cst_5
  let main_v20 : IVec S10 1 := cmpf .olt main_v18 main_v19
  let main_c_6 : IVec S_ 1 := constantI S_ 1 1#1
  let main_v21 : IVec S_ 1 := (fun x v => Host.reduce IntOp.andi x v reducesTo_S10_S_d0 h_S_) main_v20 main_c_6
  let main_v22 : IVec S_ 1 := andi main_v17 main_v21
  let main_v23 : FVec F S5x10x10 .f32 := Host.absf main_arg4
  let main_cst_7 : FVec F S_ .f32 := constant S_ .f32 0x7F800000#32
  let main_v24 : FVec F S5x10x10 .f32 := broadcastInDim S5x10x10 ![] bcast_S_S5x10x10 main_cst_7
  let main_v25 : IVec S5x10x10 1 := cmpf .olt main_v23 main_v24
  let main_c_8 : IVec S_ 1 := constantI S_ 1 1#1
  let main_v26 : IVec S_ 1 := (fun x v => Host.reduce IntOp.andi x v reducesTo_S5x10x10_S_d0_1_2 h_S_) main_v25 main_c_8
  let main_v27 : IVec S_ 1 := andi main_v22 main_v26
  let main_v28 : FVec F S10 .f32 := Host.absf main_arg5
  let main_cst_9 : FVec F S_ .f32 := constant S_ .f32 0x7F800000#32
  let main_v29 : FVec F S10 .f32 := broadcastInDim S10 ![] bcast_S_S10 main_cst_9
  let main_v30 : IVec S10 1 := cmpf .olt main_v28 main_v29
  let main_c_10 : IVec S_ 1 := constantI S_ 1 1#1
  let main_v31 : IVec S_ 1 := (fun x v => Host.reduce IntOp.andi x v reducesTo_S10_S_d0 h_S_) main_v30 main_c_10
  let main_v32 : IVec S_ 1 := andi main_v27 main_v31
  let main_v33 : FVec F S5x10x10 .f32 := Host.absf main_arg6
  let main_cst_11 : FVec F S_ .f32 := constant S_ .f32 0x7F800000#32
  fn_part2 (F := F) main_arg7 main_arg8 main_arg9 main_v32 main_v33 main_cst_11

def fn {F : FTy → Type} [FloatOps F] (main_arg0 : FVec F S8x4096x1 .f32) (main_arg1 : FVec F S4096x4096 .f32) (main_arg2 : FVec F S5x1x10 .f32) (main_arg3 : FVec F S10 .f32) (main_arg4 : FVec F S5x10x10 .f32) (main_arg5 : FVec F S10 .f32) (main_arg6 : FVec F S5x10x10 .f32) (main_arg7 : FVec F S10 .f32) (main_arg8 : FVec F S40960x10 .f32) (main_arg9 : FVec F S10 .f32) : IVec S_ 1 :=
  let main_v0 : FVec F S4096x4096 .f32 := (transpose S4096x4096 [1, 0] · transposes_S4096x4096_S4096x4096_1_0) main_arg1
  let main_v1 : IVec S4096x4096 1 := cmpf .oeq main_arg1 main_v0
  let main_c : IVec S_ 1 := constantI S_ 1 1#1
  let main_v2 : IVec S_ 1 := (fun x v => Host.reduce IntOp.andi x v reducesTo_S4096x4096_S_d0_1 h_S_) main_v1 main_c
  let main_v3 : FVec F S8x4096x1 .f32 := Host.absf main_arg0
  let main_cst : FVec F S_ .f32 := constant S_ .f32 0x7F800000#32
  let main_v4 : FVec F S8x4096x1 .f32 := broadcastInDim S8x4096x1 ![] bcast_S_S8x4096x1 main_cst
  let main_v5 : IVec S8x4096x1 1 := cmpf .olt main_v3 main_v4
  let main_c_0 : IVec S_ 1 := constantI S_ 1 1#1
  let main_v6 : IVec S_ 1 := (fun x v => Host.reduce IntOp.andi x v reducesTo_S8x4096x1_S_d0_1_2 h_S_) main_v5 main_c_0
  let main_v7 : IVec S_ 1 := andi main_v2 main_v6
  let main_v8 : FVec F S4096x4096 .f32 := Host.absf main_arg1
  let main_cst_1 : FVec F S_ .f32 := constant S_ .f32 0x7F800000#32
  let main_v9 : FVec F S4096x4096 .f32 := broadcastInDim S4096x4096 ![] bcast_S_S4096x4096 main_cst_1
  let main_v10 : IVec S4096x4096 1 := cmpf .olt main_v8 main_v9
  let main_c_2 : IVec S_ 1 := constantI S_ 1 1#1
  let main_v11 : IVec S_ 1 := (fun x v => Host.reduce IntOp.andi x v reducesTo_S4096x4096_S_d0_1 h_S_) main_v10 main_c_2
  let main_v12 : IVec S_ 1 := andi main_v7 main_v11
  let main_v13 : FVec F S5x1x10 .f32 := Host.absf main_arg2
  let main_cst_3 : FVec F S_ .f32 := constant S_ .f32 0x7F800000#32
  let main_v14 : FVec F S5x1x10 .f32 := broadcastInDim S5x1x10 ![] bcast_S_S5x1x10 main_cst_3
  let main_v15 : IVec S5x1x10 1 := cmpf .olt main_v13 main_v14
  let main_c_4 : IVec S_ 1 := constantI S_ 1 1#1
  let main_v16 : IVec S_ 1 := (fun x v => Host.reduce IntOp.andi x v reducesTo_S5x1x10_S_d0_1_2 h_S_) main_v15 main_c_4
  fn_part1 (F := F) main_arg3 main_arg4 main_arg5 main_arg6 main_arg7 main_arg8 main_arg9 main_v12 main_v16
-- ==== Kernel.lean ====
abbrev S8x4096x1 : Shape := ⟨3, ![8, 4096, 1]⟩
abbrev S4096x4096 : Shape := ⟨2, ![4096, 4096]⟩
abbrev S5x1x10 : Shape := ⟨3, ![5, 1, 10]⟩
abbrev S10 : Shape := ⟨1, ![10]⟩
abbrev S5x10x10 : Shape := ⟨3, ![5, 10, 10]⟩
abbrev S40960x10 : Shape := ⟨2, ![40960, 10]⟩
abbrev S8x8 : Shape := ⟨2, ![8, 8]⟩
abbrev S_ : Shape := ⟨0, ![]⟩
abbrev S1x8x1x8x1 : Shape := ⟨5, ![1, 8, 1, 8, 1]⟩
abbrev S5x1x1x1x10 : Shape := ⟨5, ![5, 1, 1, 1, 10]⟩
abbrev S5x8x1x8x10 : Shape := ⟨5, ![5, 8, 1, 8, 10]⟩
abbrev S5x8x80 : Shape := ⟨3, ![5, 8, 80]⟩
abbrev S5x1x10x1x10 : Shape := ⟨5, ![5, 1, 10, 1, 10]⟩
abbrev S5x8x10x8x10 : Shape := ⟨5, ![5, 8, 10, 8, 10]⟩
abbrev S5x80x80 : Shape := ⟨3, ![5, 80, 80]⟩
abbrev S5x80x8 : Shape := ⟨3, ![5, 80, 8]⟩
abbrev S1x10 : Shape := ⟨2, ![1, 10]⟩
abbrev S8x10 : Shape := ⟨2, ![8, 10]⟩
abbrev S80 : Shape := ⟨1, ![80]⟩
abbrev S80x1 : Shape := ⟨2, ![80, 1]⟩
abbrev S80x80 : Shape := ⟨2, ![80, 80]⟩
abbrev S1x80x80 : Shape := ⟨3, ![1, 80, 80]⟩
abbrev S2x80x80 : Shape := ⟨3, ![2, 80, 80]⟩
abbrev S1x2x80x80 : Shape := ⟨4, ![1, 2, 80, 80]⟩
abbrev S11x2x80x80 : Shape := ⟨4, ![11, 2, 80, 80]⟩
abbrev S1x80x1 : Shape := ⟨3, ![1, 80, 1]⟩
abbrev S11x80x1 : Shape := ⟨3, ![11, 80, 1]⟩
abbrev S8x4096 : Shape := ⟨2, ![8, 4096]⟩
abbrev S80x4096 : Shape := ⟨2, ![80, 4096]⟩
abbrev S8x10x4096 : Shape := ⟨3, ![8, 10, 4096]⟩
abbrev S8x4096x10 : Shape := ⟨3, ![8, 4096, 10]⟩
abbrev S8x40960 : Shape := ⟨2, ![8, 40960]⟩
abbrev S4096x1024 : Shape := ⟨2, ![4096, 1024]⟩
abbrev S80x1024 : Shape := ⟨2, ![80, 1024]⟩
abbrev S4096x2048 : Shape := ⟨2, ![4096, 2048]⟩
abbrev S1x1x80x80 : Shape := ⟨4, ![1, 1, 80, 80]⟩
abbrev S80x2048 : Shape := ⟨2, ![80, 2048]⟩
abbrev S8 : Shape := ⟨1, ![8]⟩
abbrev S8x1 : Shape := ⟨2, ![8, 1]⟩

abbrev nBuf : Space → Nat
  | .hbm => 172
  | .vmem => 26
  | .smem => 0
  | _ => 0

abbrev hbmTy0_0 (i : Nat) : BufTy := match i % 128 with
  | 0 => ⟨S8x4096x1, .f32⟩
  | 1 => ⟨S4096x4096, .f32⟩
  | 2 => ⟨S5x1x10, .f32⟩
  | 3 => ⟨S10, .f32⟩
  | 4 => ⟨S5x10x10, .f32⟩
  | 5 => ⟨S10, .f32⟩
  | 6 => ⟨S5x10x10, .f32⟩
  | 7 => ⟨S10, .f32⟩
  | 8 => ⟨S40960x10, .f32⟩
  | 9 => ⟨S10, .f32⟩
  | 10 => ⟨S8x8, .i32⟩
  | 11 => ⟨S8x8, .i32⟩
  | 12 => ⟨S_, .i32⟩
  | 13 => ⟨S8x8, .i32⟩
  | 14 => ⟨S8x8, .i32⟩
  | 15 => ⟨S8x8, .i1⟩
  | 16 => ⟨S8x8, .f32⟩
  | 17 => ⟨S1x8x1x8x1, .f32⟩
  | 18 => ⟨S5x1x1x1x10, .f32⟩
  | 19 => ⟨S5x8x1x8x10, .f32⟩
  | 20 => ⟨S5x8x1x8x10, .f32⟩
  | 21 => ⟨S5x8x1x8x10, .f32⟩
  | 22 => ⟨S5x8x80, .f32⟩
  | 23 => ⟨S1x8x1x8x1, .f32⟩
  | 24 => ⟨S5x1x10x1x10, .f32⟩
  | 25 => ⟨S5x8x10x8x10, .f32⟩
  | 26 => ⟨S5x8x10x8x10, .f32⟩
  | 27 => ⟨S5x8x10x8x10, .f32⟩
  | 28 => ⟨S5x80x80, .f32⟩
  | 29 => ⟨S1x8x1x8x1, .f32⟩
  | 30 => ⟨S5x1x10x1x10, .f32⟩
  | 31 => ⟨S5x8x10x8x10, .f32⟩
  | 32 => ⟨S5x8x10x8x10, .f32⟩
  | 33 => ⟨S5x8x10x8x10, .f32⟩
  | 34 => ⟨S5x80x80, .f32⟩
  | 35 => ⟨S5x80x8, .f32⟩
  | 36 => ⟨S_, .i32⟩
  | 37 => ⟨S_, .f32⟩
  | 38 => ⟨S5x80x80, .f32⟩
  | 39 => ⟨S5x80x80, .f32⟩
  | 40 => ⟨S5x80x80, .f32⟩
  | 41 => ⟨S1x10, .f32⟩
  | 42 => ⟨S8x10, .f32⟩
  | 43 => ⟨S80, .f32⟩
  | 44 => ⟨S80x1, .f32⟩
  | 45 => ⟨S1x10, .f32⟩
  | 46 => ⟨S8x10, .f32⟩
  | 47 => ⟨S80, .f32⟩
  | 48 => ⟨S80x1, .f32⟩
  | 49 => ⟨S1x10, .f32⟩
  | 50 => ⟨S8x10, .f32⟩
  | 51 => ⟨S80, .f32⟩
  | 52 => ⟨S80x1, .f32⟩
  | 53 => ⟨S_, .f32⟩
  | 54 => ⟨S80x80, .f32⟩
  | 55 => ⟨S1x80x80, .f32⟩
  | 56 => ⟨S80x80, .f32⟩
  | 57 => ⟨S1x80x80, .f32⟩
  | 58 => ⟨S80x80, .f32⟩
  | 59 => ⟨S1x80x80, .f32⟩
  | 60 => ⟨S1x80x80, .f32⟩
  | 61 => ⟨S2x80x80, .f32⟩
  | 62 => ⟨S_, .f32⟩
  | 63 => ⟨S80x1, .f32⟩
  | 64 => ⟨S1x80x80, .f32⟩
  | 65 => ⟨S80x80, .f32⟩
  | 66 => ⟨S1x80x80, .f32⟩
  | 67 => ⟨S1x80x80, .f32⟩
  | 68 => ⟨S2x80x80, .f32⟩
  | 69 => ⟨S_, .f32⟩
  | 70 => ⟨S80x1, .f32⟩
  | 71 => ⟨S1x80x80, .f32⟩
  | 72 => ⟨S80x80, .f32⟩
  | 73 => ⟨S1x80x80, .f32⟩
  | 74 => ⟨S1x80x80, .f32⟩
  | 75 => ⟨S2x80x80, .f32⟩
  | 76 => ⟨S_, .f32⟩
  | 77 => ⟨S80x1, .f32⟩
  | 78 => ⟨S1x80x80, .f32⟩
  | 79 => ⟨S80x80, .f32⟩
  | 80 => ⟨S1x80x80, .f32⟩
  | 81 => ⟨S80x80, .f32⟩
  | 82 => ⟨S1x80x80, .f32⟩
  | 83 => ⟨S1x80x80, .f32⟩
  | 84 => ⟨S2x80x80, .f32⟩
  | 85 => ⟨S1x80x80, .f32⟩
  | 86 => ⟨S80x80, .f32⟩
  | 87 => ⟨S1x80x80, .f32⟩
  | 88 => ⟨S1x80x80, .f32⟩
  | 89 => ⟨S2x80x80, .f32⟩
  | 90 => ⟨S_, .f32⟩
  | 91 => ⟨S80x1, .f32⟩
  | 92 => ⟨S1x80x80, .f32⟩
  | 93 => ⟨S80x80, .f32⟩
  | 94 => ⟨S1x80x80, .f32⟩
  | 95 => ⟨S1x80x80, .f32⟩
  | 96 => ⟨S2x80x80, .f32⟩
  | 97 => ⟨S_, .f32⟩
  | 98 => ⟨S80x1, .f32⟩
  | 99 => ⟨S1x80x80, .f32⟩
  | 100 => ⟨S80x80, .f32⟩
  | 101 => ⟨S1x80x80, .f32⟩
  | 102 => ⟨S1x80x80, .f32⟩
  | 103 => ⟨S2x80x80, .f32⟩
  | 104 => ⟨S_, .f32⟩
  | 105 => ⟨S80x1, .f32⟩
  | 106 => ⟨S1x80x80, .f32⟩
  | 107 => ⟨S80x80, .f32⟩
  | 108 => ⟨S1x80x80, .f32⟩
  | 109 => ⟨S80x80, .f32⟩
  | 110 => ⟨S1x80x80, .f32⟩
  | 111 => ⟨S1x80x80, .f32⟩
  | 112 => ⟨S2x80x80, .f32⟩
  | 113 => ⟨S1x80x80, .f32⟩
  | 114 => ⟨S80x80, .f32⟩
  | 115 => ⟨S1x80x80, .f32⟩
  | 116 => ⟨S1x80x80, .f32⟩
  | 117 => ⟨S2x80x80, .f32⟩
  | 118 => ⟨S_, .f32⟩
  | 119 => ⟨S80x1, .f32⟩
  | 120 => ⟨S1x80x80, .f32⟩
  | 121 => ⟨S80x80, .f32⟩
  | 122 => ⟨S1x80x80, .f32⟩
  | 123 => ⟨S1x80x80, .f32⟩
  | 124 => ⟨S2x80x80, .f32⟩
  | 125 => ⟨S_, .f32⟩
  | 126 => ⟨S80x1, .f32⟩
  | 127 => ⟨S1x80x80, .f32⟩
  | _ => ⟨S8x4096x1, .f32⟩

abbrev hbmTy0_1 (i : Nat) : BufTy := match i % 128 with
  | 0 => ⟨S80x80, .f32⟩
  | 1 => ⟨S1x80x80, .f32⟩
  | 2 => ⟨S1x80x80, .f32⟩
  | 3 => ⟨S2x80x80, .f32⟩
  | 4 => ⟨S_, .f32⟩
  | 5 => ⟨S80x1, .f32⟩
  | 6 => ⟨S1x2x80x80, .f32⟩
  | 7 => ⟨S1x2x80x80, .f32⟩
  | 8 => ⟨S1x2x80x80, .f32⟩
  | 9 => ⟨S1x2x80x80, .f32⟩
  | 10 => ⟨S1x2x80x80, .f32⟩
  | 11 => ⟨S1x2x80x80, .f32⟩
  | 12 => ⟨S1x2x80x80, .f32⟩
  | 13 => ⟨S1x2x80x80, .f32⟩
  | 14 => ⟨S1x2x80x80, .f32⟩
  | 15 => ⟨S1x2x80x80, .f32⟩
  | 16 => ⟨S1x2x80x80, .f32⟩
  | 17 => ⟨S11x2x80x80, .f32⟩
  | 18 => ⟨S1x80x1, .f32⟩
  | 19 => ⟨S1x80x1, .f32⟩
  | 20 => ⟨S1x80x1, .f32⟩
  | 21 => ⟨S1x80x1, .f32⟩
  | 22 => ⟨S1x80x1, .f32⟩
  | 23 => ⟨S1x80x1, .f32⟩
  | 24 => ⟨S1x80x1, .f32⟩
  | 25 => ⟨S1x80x1, .f32⟩
  | 26 => ⟨S1x80x1, .f32⟩
  | 27 => ⟨S1x80x1, .f32⟩
  | 28 => ⟨S1x80x1, .f32⟩
  | 29 => ⟨S11x80x1, .f32⟩
  | 30 => ⟨S8x4096, .f32⟩
  | 31 => ⟨S_, .i32⟩
  | 32 => ⟨S_, .f32⟩
  | 33 => ⟨S80x4096, .f32⟩
  | 34 => ⟨S4096x4096, .bf16⟩
  | 35 => ⟨S80x4096, .f32⟩
  | 36 => ⟨S1x80x80, .f32⟩
  | 37 => ⟨S80x80, .f32⟩
  | 38 => ⟨S80x4096, .f32⟩
  | 39 => ⟨S8x10x4096, .f32⟩
  | 40 => ⟨S8x4096x10, .f32⟩
  | 41 => ⟨S8x40960, .f32⟩
  | 42 => ⟨S1x10, .f32⟩
  | 43 => ⟨S8x10, .f32⟩
  | _ => ⟨S8x4096x1, .f32⟩

abbrev hbmTy (i : Nat) : BufTy := match i / 128 with
  | 0 => hbmTy0_0 i
  | 1 => hbmTy0_1 i
  | _ => ⟨S8x4096x1, .f32⟩

abbrev bufTy : (tb : Table) → Fin (tcTables nBuf tb) → BufTy
  | .hbm, ⟨i, _⟩ => hbmTy i
  | .local _ .vmem, ⟨0, _⟩ => ⟨S4096x1024, .f32⟩
  | .local _ .vmem, ⟨1, _⟩ => ⟨S4096x1024, .f32⟩
  | .local _ .vmem, ⟨2, _⟩ => ⟨S80x4096, .f32⟩
  | .local _ .vmem, ⟨3, _⟩ => ⟨S4096x1024, .bf16⟩
  | .local _ .vmem, ⟨4, _⟩ => ⟨S4096x1024, .bf16⟩
  | .local _ .vmem, ⟨5, _⟩ => ⟨S80x1024, .f32⟩
  | .local _ .vmem, ⟨6, _⟩ => ⟨S80x1024, .f32⟩
  | .local _ .vmem, ⟨7, _⟩ => ⟨S4096x2048, .bf16⟩
  | .local _ .vmem, ⟨8, _⟩ => ⟨S4096x2048, .bf16⟩
  | .local _ .vmem, ⟨9, _⟩ => ⟨S80x4096, .f32⟩
  | .local _ .vmem, ⟨10, _⟩ => ⟨S80x4096, .f32⟩
  | .local _ .vmem, ⟨11, _⟩ => ⟨S1x2x80x80, .f32⟩
  | .local _ .vmem, ⟨12, _⟩ => ⟨S1x2x80x80, .f32⟩
  | .local _ .vmem, ⟨13, _⟩ => ⟨S1x80x1, .f32⟩
  | .local _ .vmem, ⟨14, _⟩ => ⟨S1x80x1, .f32⟩
  | .local _ .vmem, ⟨15, _⟩ => ⟨S80x80, .f32⟩
  | .local _ .vmem, ⟨16, _⟩ => ⟨S80x1, .f32⟩
  | .local _ .vmem, ⟨17, _⟩ => ⟨S80x4096, .f32⟩
  | .local _ .vmem, ⟨18, _⟩ => ⟨S80x4096, .f32⟩
  | .local _ .vmem, ⟨19, _⟩ => ⟨S80x4096, .f32⟩
  | .local _ .vmem, ⟨20, _⟩ => ⟨S80x4096, .bf16⟩
  | .local _ .vmem, ⟨21, _⟩ => ⟨S80x4096, .f32⟩
  | .local _ .vmem, ⟨22, _⟩ => ⟨S8x40960, .f32⟩
  | .local _ .vmem, ⟨23, _⟩ => ⟨S40960x10, .f32⟩
  | .local _ .vmem, ⟨24, _⟩ => ⟨S1x10, .f32⟩
  | .local _ .vmem, ⟨25, _⟩ => ⟨S8x10, .f32⟩
  | _, _ => ⟨S8x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_c : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_call0_c_0 : Ref sig .tc := ⟨.hbm, 36, rfl⟩
abbrev main_call0_call0_v0 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_cst : Ref sig .tc := ⟨.hbm, 53, rfl⟩
abbrev main_call0_v40 : Ref sig .tc := ⟨.hbm, 54, rfl⟩
abbrev main_call0_v41 : Ref sig .tc := ⟨.hbm, 55, rfl⟩
abbrev main_call0_v42 : Ref sig .tc := ⟨.hbm, 56, rfl⟩
abbrev main_call0_v43 : Ref sig .tc := ⟨.hbm, 57, rfl⟩
abbrev main_call0_v44 : Ref sig .tc := ⟨.hbm, 58, rfl⟩
abbrev main_call0_v45 : Ref sig .tc := ⟨.hbm, 59, rfl⟩
abbrev main_call0_v46 : Ref sig .tc := ⟨.hbm, 60, rfl⟩
abbrev main_call0_v47 : Ref sig .tc := ⟨.hbm, 61, rfl⟩
abbrev main_call0_cst_1 : Ref sig .tc := ⟨.hbm, 62, rfl⟩
abbrev main_call0_v48 : Ref sig .tc := ⟨.hbm, 63, rfl⟩
abbrev main_call0_v49 : Ref sig .tc := ⟨.hbm, 64, rfl⟩
abbrev main_call0_v50 : Ref sig .tc := ⟨.hbm, 65, rfl⟩
abbrev main_call0_v51 : Ref sig .tc := ⟨.hbm, 66, rfl⟩
abbrev main_call0_v52 : Ref sig .tc := ⟨.hbm, 67, rfl⟩
abbrev main_call0_v53 : Ref sig .tc := ⟨.hbm, 68, rfl⟩
abbrev main_call0_cst_2 : Ref sig .tc := ⟨.hbm, 69, rfl⟩
abbrev main_call0_v54 : Ref sig .tc := ⟨.hbm, 70, rfl⟩
abbrev main_call0_v55 : Ref sig .tc := ⟨.hbm, 71, rfl⟩
abbrev main_call0_v56 : Ref sig .tc := ⟨.hbm, 72, rfl⟩
abbrev main_call0_v57 : Ref sig .tc := ⟨.hbm, 73, rfl⟩
abbrev main_call0_v58 : Ref sig .tc := ⟨.hbm, 74, rfl⟩
abbrev main_call0_v59 : Ref sig .tc := ⟨.hbm, 75, rfl⟩
abbrev main_call0_cst_3 : Ref sig .tc := ⟨.hbm, 76, rfl⟩
abbrev main_call0_v60 : Ref sig .tc := ⟨.hbm, 77, rfl⟩
abbrev main_call0_v61 : Ref sig .tc := ⟨.hbm, 78, rfl⟩
abbrev main_call0_v62 : Ref sig .tc := ⟨.hbm, 79, rfl⟩
abbrev main_call0_v63 : Ref sig .tc := ⟨.hbm, 80, rfl⟩
abbrev main_call0_v64 : Ref sig .tc := ⟨.hbm, 81, rfl⟩
abbrev main_call0_v65 : Ref sig .tc := ⟨.hbm, 82, rfl⟩
abbrev main_call0_v66 : Ref sig .tc := ⟨.hbm, 83, rfl⟩
abbrev main_call0_v67 : Ref sig .tc := ⟨.hbm, 84, rfl⟩
abbrev main_call0_v68 : Ref sig .tc := ⟨.hbm, 85, rfl⟩
abbrev main_call0_v69 : Ref sig .tc := ⟨.hbm, 86, rfl⟩
abbrev main_call0_v70 : Ref sig .tc := ⟨.hbm, 87, rfl⟩
abbrev main_call0_v71 : Ref sig .tc := ⟨.hbm, 88, rfl⟩
abbrev main_call0_v72 : Ref sig .tc := ⟨.hbm, 89, rfl⟩
abbrev main_call0_cst_4 : Ref sig .tc := ⟨.hbm, 90, rfl⟩
abbrev main_call0_v73 : Ref sig .tc := ⟨.hbm, 91, rfl⟩
abbrev main_call0_v74 : Ref sig .tc := ⟨.hbm, 92, rfl⟩
abbrev main_call0_v75 : Ref sig .tc := ⟨.hbm, 93, rfl⟩
abbrev main_call0_v76 : Ref sig .tc := ⟨.hbm, 94, rfl⟩
abbrev main_call0_v77 : Ref sig .tc := ⟨.hbm, 95, rfl⟩
abbrev main_call0_v78 : Ref sig .tc := ⟨.hbm, 96, rfl⟩
abbrev main_call0_cst_5 : Ref sig .tc := ⟨.hbm, 97, rfl⟩
abbrev main_call0_v79 : Ref sig .tc := ⟨.hbm, 98, rfl⟩
abbrev main_call0_v80 : Ref sig .tc := ⟨.hbm, 99, rfl⟩
abbrev main_call0_v81 : Ref sig .tc := ⟨.hbm, 100, rfl⟩
abbrev main_call0_v82 : Ref sig .tc := ⟨.hbm, 101, rfl⟩
abbrev main_call0_v83 : Ref sig .tc := ⟨.hbm, 102, rfl⟩
abbrev main_call0_v84 : Ref sig .tc := ⟨.hbm, 103, rfl⟩
abbrev main_call0_cst_6 : Ref sig .tc := ⟨.hbm, 104, rfl⟩
abbrev main_call0_v85 : Ref sig .tc := ⟨.hbm, 105, rfl⟩
abbrev main_call0_v86 : Ref sig .tc := ⟨.hbm, 106, rfl⟩
abbrev main_call0_v87 : Ref sig .tc := ⟨.hbm, 107, rfl⟩
abbrev main_call0_v88 : Ref sig .tc := ⟨.hbm, 108, rfl⟩
abbrev main_call0_v89 : Ref sig .tc := ⟨.hbm, 109, rfl⟩
abbrev main_call0_v90 : Ref sig .tc := ⟨.hbm, 110, rfl⟩
abbrev main_call0_v91 : Ref sig .tc := ⟨.hbm, 111, rfl⟩
abbrev main_call0_v92 : Ref sig .tc := ⟨.hbm, 112, rfl⟩
abbrev main_call0_v93 : Ref sig .tc := ⟨.hbm, 113, rfl⟩
abbrev main_call0_v94 : Ref sig .tc := ⟨.hbm, 114, rfl⟩
abbrev main_call0_v95 : Ref sig .tc := ⟨.hbm, 115, rfl⟩
abbrev main_call0_v96 : Ref sig .tc := ⟨.hbm, 116, rfl⟩
abbrev main_call0_v97 : Ref sig .tc := ⟨.hbm, 117, rfl⟩
abbrev main_call0_cst_7 : Ref sig .tc := ⟨.hbm, 118, rfl⟩
abbrev main_call0_v98 : Ref sig .tc := ⟨.hbm, 119, rfl⟩
abbrev main_call0_v99 : Ref sig .tc := ⟨.hbm, 120, rfl⟩
abbrev main_call0_v100 : Ref sig .tc := ⟨.hbm, 121, rfl⟩
abbrev main_call0_v101 : Ref sig .tc := ⟨.hbm, 122, rfl⟩
abbrev main_call0_v102 : Ref sig .tc := ⟨.hbm, 123, rfl⟩
abbrev main_call0_v103 : Ref sig .tc := ⟨.hbm, 124, rfl⟩
abbrev main_call0_cst_8 : Ref sig .tc := ⟨.hbm, 125, rfl⟩
abbrev main_call0_v104 : Ref sig .tc := ⟨.hbm, 126, rfl⟩
abbrev main_call0_v105 : Ref sig .tc := ⟨.hbm, 127, rfl⟩
abbrev main_call0_v106 : Ref sig .tc := ⟨.hbm, 128, rfl⟩
abbrev main_call0_v107 : Ref sig .tc := ⟨.hbm, 129, rfl⟩
abbrev main_call0_v108 : Ref sig .tc := ⟨.hbm, 130, rfl⟩
abbrev main_call0_v109 : Ref sig .tc := ⟨.hbm, 131, rfl⟩
abbrev main_call0_cst_9 : Ref sig .tc := ⟨.hbm, 132, rfl⟩
abbrev main_call0_v110 : Ref sig .tc := ⟨.hbm, 133, rfl⟩
abbrev main_call0_v111 : Ref sig .tc := ⟨.hbm, 134, rfl⟩
abbrev main_call0_v112 : Ref sig .tc := ⟨.hbm, 135, rfl⟩
abbrev main_call0_v113 : Ref sig .tc := ⟨.hbm, 136, rfl⟩
abbrev main_call0_v114 : Ref sig .tc := ⟨.hbm, 137, rfl⟩
abbrev main_call0_v115 : Ref sig .tc := ⟨.hbm, 138, rfl⟩
abbrev main_call0_v116 : Ref sig .tc := ⟨.hbm, 139, rfl⟩
abbrev main_call0_v117 : Ref sig .tc := ⟨.hbm, 140, rfl⟩
abbrev main_call0_v118 : Ref sig .tc := ⟨.hbm, 141, rfl⟩
abbrev main_call0_v119 : Ref sig .tc := ⟨.hbm, 142, rfl⟩
abbrev main_call0_v120 : Ref sig .tc := ⟨.hbm, 143, rfl⟩
abbrev main_call0_v121 : Ref sig .tc := ⟨.hbm, 144, rfl⟩
abbrev main_call0_v122 : Ref sig .tc := ⟨.hbm, 145, rfl⟩
abbrev main_call0_v123 : Ref sig .tc := ⟨.hbm, 146, rfl⟩
abbrev main_call0_v124 : Ref sig .tc := ⟨.hbm, 147, rfl⟩
abbrev main_call0_v125 : Ref sig .tc := ⟨.hbm, 148, rfl⟩
abbrev main_call0_v126 : Ref sig .tc := ⟨.hbm, 149, rfl⟩
abbrev main_call0_v127 : Ref sig .tc := ⟨.hbm, 150, rfl⟩
abbrev main_call0_v128 : Ref sig .tc := ⟨.hbm, 151, rfl⟩
abbrev main_call0_v129 : Ref sig .tc := ⟨.hbm, 152, rfl⟩
abbrev main_call0_v130 : Ref sig .tc := ⟨.hbm, 153, rfl⟩
abbrev main_call0_v131 : Ref sig .tc := ⟨.hbm, 154, rfl⟩
abbrev main_call0_v132 : Ref sig .tc := ⟨.hbm, 155, rfl⟩
abbrev main_call0_v133 : Ref sig .tc := ⟨.hbm, 156, rfl⟩
abbrev main_call0_v134 : Ref sig .tc := ⟨.hbm, 157, rfl⟩
abbrev main_call0_v135 : Ref sig .tc := ⟨.hbm, 158, rfl⟩
abbrev main_call0_c_10 : Ref sig .tc := ⟨.hbm, 159, rfl⟩
abbrev main_call0_call1_v0 : Ref sig .tc := ⟨.hbm, 160, rfl⟩
abbrev main_call0_v136 : Ref sig .tc := ⟨.hbm, 161, rfl⟩
abbrev main_call0_v137_0 : Ref sig .tc := ⟨.hbm, 162, rfl⟩
abbrev main_call0_v137_1 : Ref sig .tc := ⟨.hbm, 163, rfl⟩
abbrev main_call0_v138 : Ref sig .tc := ⟨.hbm, 164, rfl⟩
abbrev main_call0_v139 : Ref sig .tc := ⟨.hbm, 165, rfl⟩
abbrev main_call0_v140 : Ref sig .tc := ⟨.hbm, 166, rfl⟩
abbrev main_call0_v141 : Ref sig .tc := ⟨.hbm, 167, rfl⟩
abbrev main_call0_v142 : Ref sig .tc := ⟨.hbm, 168, rfl⟩
abbrev main_call0_v143 : Ref sig .tc := ⟨.hbm, 169, rfl⟩
abbrev main_call0_v144 : Ref sig .tc := ⟨.hbm, 170, rfl⟩
abbrev main_v0 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![11, 2], ![false, false]⟩

def k1_cond5 (i : grid1.Coords) : BitVec 1 :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.remsi v0 c4_i32
  let c2_i32_15 : BitVec 32 := 2#32
  let v30 : BitVec 32 := Scalar.remsi v1 c2_i32_15
  let c0_i32_16 : BitVec 32 := 0#32
  let v31 : BitVec 1 := Scalar.cmpi .eq v30 c0_i32_16
  let v32 : BitVec 32 := Scalar.extui v31
  let c0_i32_17 : BitVec 32 := 0#32
  let v33 : BitVec 1 := Scalar.cmpi .ne v32 c0_i32_17
  v33

def k1_off1 (i : grid1.Coords) : Fin 2 → Nat :=
  let c0_24 : Index := 0#32
  let arg1 : BitVec 32 := BitVec.ofNat 32 (i 1).val
  let c2048_i32 : BitVec 32 := 2048#32
  let v29 : BitVec 32 := Scalar.muli arg1 c2048_i32
  let v44 : Index := Scalar.indexCast v29
  ![0, v44.toNat]
def k1_cond6 (i : grid1.Coords) : BitVec 1 :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.remsi v0 c4_i32
  let c2_i32_18 : BitVec 32 := 2#32
  let v34 : BitVec 32 := Scalar.remsi v1 c2_i32_18
  let c1_i32_19 : BitVec 32 := 1#32
  let v35 : BitVec 1 := Scalar.cmpi .eq v34 c1_i32_19
  let v36 : BitVec 32 := Scalar.extui v35
  let c0_i32_20 : BitVec 32 := 0#32
  let v37 : BitVec 1 := Scalar.cmpi .ne v36 c0_i32_20
  v37

def k1_off2 (i : grid1.Coords) : Fin 2 → Nat :=
  let c0_23 : Index := 0#32
  let arg1 : BitVec 32 := BitVec.ofNat 32 (i 1).val
  let c2048_i32 : BitVec 32 := 2048#32
  let v29 : BitVec 32 := Scalar.muli arg1 c2048_i32
  let v43 : Index := Scalar.indexCast v29
  ![0, v43.toNat]
def k1_cond7 (i : grid1.Coords) : BitVec 1 :=
  let arg0 : BitVec 32 := BitVec.ofNat 32 (i 0).val
  let c10_i32 : BitVec 32 := 10#32
  let v38 : BitVec 1 := Scalar.cmpi .eq arg0 c10_i32
  let v39 : BitVec 32 := Scalar.extui v38
  let c0_i32_21 : BitVec 32 := 0#32
  let v40 : BitVec 1 := Scalar.cmpi .ne v39 c0_i32_21
  v40

def k1_off3 (i : grid1.Coords) : Fin 2 → Nat :=
  let c0_22 : Index := 0#32
  let arg1 : BitVec 32 := BitVec.ofNat 32 (i 1).val
  let c2048_i32 : BitVec 32 := 2048#32
  let v29 : BitVec 32 := Scalar.muli arg1 c2048_i32
  let v41 : Index := Scalar.indexCast v29
  ![0, v41.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S80x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S80x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2x80x80 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x80x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S80x80 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S80x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S80x4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev grid2 : Pipeline.Grid := .none

abbrev stage2_0 : Fin 1 → Memref sig .tc .vmem S8x40960 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S40960x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== ReferenceIdeal.lean ====
abbrev S8x4096x1 : Shape := ⟨3, ![8, 4096, 1]⟩
abbrev S4096x4096 : Shape := ⟨2, ![4096, 4096]⟩
abbrev S5x1x10 : Shape := ⟨3, ![5, 1, 10]⟩
abbrev S10 : Shape := ⟨1, ![10]⟩
abbrev S5x10x10 : Shape := ⟨3, ![5, 10, 10]⟩
abbrev S40960x10 : Shape := ⟨2, ![40960, 10]⟩
abbrev S8x1x4096 : Shape := ⟨3, ![8, 1, 4096]⟩
abbrev S_ : Shape := ⟨0, ![]⟩
abbrev S1x8x4096x1 : Shape := ⟨4, ![1, 8, 4096, 1]⟩
abbrev S5x8x4096x1 : Shape := ⟨4, ![5, 8, 4096, 1]⟩
abbrev S8x4096x10 : Shape := ⟨3, ![8, 4096, 10]⟩
abbrev S1x1x10 : Shape := ⟨3, ![1, 1, 10]⟩
abbrev S8x10x4096 : Shape := ⟨3, ![8, 10, 4096]⟩
abbrev S1x8x4096x10 : Shape := ⟨4, ![1, 8, 4096, 10]⟩
abbrev S5x8x4096x10 : Shape := ⟨4, ![5, 8, 4096, 10]⟩
abbrev S8x40960 : Shape := ⟨2, ![8, 40960]⟩
abbrev S8x10 : Shape := ⟨2, ![8, 10]⟩
abbrev S1x10 : Shape := ⟨2, ![1, 10]⟩
abbrev S8 : Shape := ⟨1, ![8]⟩
abbrev S8x1 : Shape := ⟨2, ![8, 1]⟩

abbrev nBuf : Space → Nat
  | .hbm => 129
  | .vmem => 0
  | .smem => 0
  | _ => 0

abbrev hbmTy0_0 (i : Nat) : BufTy := match i % 128 with
  | 0 => ⟨S8x4096x1, .f32⟩
  | 1 => ⟨S4096x4096, .f32⟩
  | 2 => ⟨S5x1x10, .f32⟩
  | 3 => ⟨S10, .f32⟩
  | 4 => ⟨S5x10x10, .f32⟩
  | 5 => ⟨S10, .f32⟩
  | 6 => ⟨S5x10x10, .f32⟩
  | 7 => ⟨S10, .f32⟩
  | 8 => ⟨S40960x10, .f32⟩
  | 9 => ⟨S10, .f32⟩
  | 10 => ⟨S8x1x4096, .f32⟩
  | 11 => ⟨S8x4096x1, .f32⟩
  | 12 => ⟨S8x1x4096, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x1x4096, .f32⟩
  | 19 => ⟨S8x4096x1, .f32⟩
  | 20 => ⟨S_, .f32⟩
  | 21 => ⟨S8x4096x1, .f32⟩
  | 22 => ⟨S8x4096x1, .f32⟩
  | 23 => ⟨S8x4096x1, .f32⟩
  | 24 => ⟨S8x1x4096, .f32⟩
  | 25 => ⟨S8x4096x1, .f32⟩
  | 26 => ⟨S_, .f32⟩
  | 27 => ⟨S8x4096x1, .f32⟩
  | 28 => ⟨S8x4096x1, .f32⟩
  | 29 => ⟨S8x4096x1, .f32⟩
  | 30 => ⟨S1x8x4096x1, .f32⟩
  | 31 => ⟨S1x8x4096x1, .f32⟩
  | 32 => ⟨S1x8x4096x1, .f32⟩
  | 33 => ⟨S1x8x4096x1, .f32⟩
  | 34 => ⟨S1x8x4096x1, .f32⟩
  | 35 => ⟨S5x8x4096x1, .f32⟩
  | 36 => ⟨S8x4096x10, .f32⟩
  | 37 => ⟨S1x1x10, .f32⟩
  | 38 => ⟨S8x4096x10, .f32⟩
  | 39 => ⟨S8x4096x10, .f32⟩
  | 40 => ⟨S_, .f32⟩
  | 41 => ⟨S8x4096x10, .f32⟩
  | 42 => ⟨S8x4096x10, .f32⟩
  | 43 => ⟨S8x10x4096, .f32⟩
  | 44 => ⟨S8x4096x10, .f32⟩
  | 45 => ⟨S8x10x4096, .f32⟩
  | 46 => ⟨S8x4096x10, .f32⟩
  | 47 => ⟨S_, .f32⟩
  | 48 => ⟨S8x4096x10, .f32⟩
  | 49 => ⟨S8x4096x10, .f32⟩
  | 50 => ⟨S8x4096x10, .f32⟩
  | 51 => ⟨S8x10x4096, .f32⟩
  | 52 => ⟨S8x4096x10, .f32⟩
  | 53 => ⟨S_, .f32⟩
  | 54 => ⟨S8x4096x10, .f32⟩
  | 55 => ⟨S8x4096x10, .f32⟩
  | 56 => ⟨S8x4096x10, .f32⟩
  | 57 => ⟨S8x10x4096, .f32⟩
  | 58 => ⟨S8x4096x10, .f32⟩
  | 59 => ⟨S_, .f32⟩
  | 60 => ⟨S8x4096x10, .f32⟩
  | 61 => ⟨S8x4096x10, .f32⟩
  | 62 => ⟨S8x4096x10, .f32⟩
  | 63 => ⟨S1x8x4096x10, .f32⟩
  | 64 => ⟨S1x8x4096x10, .f32⟩
  | 65 => ⟨S1x8x4096x10, .f32⟩
  | 66 => ⟨S1x8x4096x10, .f32⟩
  | 67 => ⟨S1x8x4096x10, .f32⟩
  | 68 => ⟨S5x8x4096x10, .f32⟩
  | 69 => ⟨S8x4096x10, .f32⟩
  | 70 => ⟨S1x1x10, .f32⟩
  | 71 => ⟨S8x4096x10, .f32⟩
  | 72 => ⟨S8x4096x10, .f32⟩
  | 73 => ⟨S_, .f32⟩
  | 74 => ⟨S8x4096x10, .f32⟩
  | 75 => ⟨S8x4096x10, .f32⟩
  | 76 => ⟨S8x10x4096, .f32⟩
  | 77 => ⟨S8x4096x10, .f32⟩
  | 78 => ⟨S8x10x4096, .f32⟩
  | 79 => ⟨S8x4096x10, .f32⟩
  | 80 => ⟨S_, .f32⟩
  | 81 => ⟨S8x4096x10, .f32⟩
  | 82 => ⟨S8x4096x10, .f32⟩
  | 83 => ⟨S8x4096x10, .f32⟩
  | 84 => ⟨S8x10x4096, .f32⟩
  | 85 => ⟨S8x4096x10, .f32⟩
  | 86 => ⟨S_, .f32⟩
  | 87 => ⟨S8x4096x10, .f32⟩
  | 88 => ⟨S8x4096x10, .f32⟩
  | 89 => ⟨S8x4096x10, .f32⟩
  | 90 => ⟨S8x10x4096, .f32⟩
  | 91 => ⟨S8x4096x10, .f32⟩
  | 92 => ⟨S_, .f32⟩
  | 93 => ⟨S8x4096x10, .f32⟩
  | 94 => ⟨S8x4096x10, .f32⟩
  | 95 => ⟨S8x4096x10, .f32⟩
  | 96 => ⟨S1x8x4096x10, .f32⟩
  | 97 => ⟨S1x8x4096x10, .f32⟩
  | 98 => ⟨S1x8x4096x10, .f32⟩
  | 99 => ⟨S1x8x4096x10, .f32⟩
  | 100 => ⟨S1x8x4096x10, .f32⟩
  | 101 => ⟨S5x8x4096x10, .f32⟩
  | 102 => ⟨S8x4096x10, .f32⟩
  | 103 => ⟨S1x1x10, .f32⟩
  | 104 => ⟨S8x4096x10, .f32⟩
  | 105 => ⟨S8x4096x10, .f32⟩
  | 106 => ⟨S_, .f32⟩
  | 107 => ⟨S8x4096x10, .f32⟩
  | 108 => ⟨S8x4096x10, .f32⟩
  | 109 => ⟨S8x40960, .f32⟩
  | 110 => ⟨S8x10, .f32⟩
  | 111 => ⟨S1x10, .f32⟩
  | 112 => ⟨S8x10, .f32⟩
  | 113 => ⟨S8x10, .f32⟩
  | 114 => ⟨S_, .f32⟩
  | 115 => ⟨S8, .f32⟩
  | 116 => ⟨S_, .f32⟩
  | 117 => ⟨S8, .f32⟩
  | 118 => ⟨S8, .f32⟩
  | 119 => ⟨S8x1, .f32⟩
  | 120 => ⟨S8x10, .f32⟩
  | 121 => ⟨S8x10, .f32⟩
  | 122 => ⟨S8x10, .f32⟩
  | 123 => ⟨S_, .f32⟩
  | 124 => ⟨S8, .f32⟩
  | 125 => ⟨S8x1, .f32⟩
  | 126 => ⟨S8x1, .f32⟩
  | 127 => ⟨S8x10, .f32⟩
  | _ => ⟨S8x4096x1, .f32⟩

abbrev hbmTy0_1 (i : Nat) : BufTy := match i % 128 with
  | 0 => ⟨S8x10, .f32⟩
  | _ => ⟨S8x4096x1, .f32⟩

abbrev hbmTy (i : Nat) : BufTy := match i / 128 with
  | 0 => hbmTy0_0 i
  | 1 => hbmTy0_1 i
  | _ => ⟨S8x4096x1, .f32⟩

abbrev bufTy : (tb : Table) → Fin (tcTables nBuf tb) → BufTy
  | .hbm, ⟨i, _⟩ => hbmTy i
  | _, _ => ⟨S8x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call1_cst : Ref sig .tc := ⟨.hbm, 73, rfl⟩
abbrev main_call1_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_5 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_7 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_call2_cst : Ref sig .tc := ⟨.hbm, 106, rfl⟩
abbrev main_call2_v0 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v89 : Ref sig .tc := ⟨.hbm, 128, rfl⟩

abbrev nD : Nat := 1
abbrev τ : Topo := Topo.v7x

variable {F : FTy → Type} [FloatOps F]
-- ==== Proof.Region.lean ====
/-
  A kernel region of `@main` as a segment of the launch, for relational proof data.

  The thread holds every unscoped buffer whole, at a valuation `W c` before the region and at `W' c` after it, and owes
  nothing. The windows' arrays are taken out of those buffers and put back: whatever the proof data let an array hold at
  the end has to be what `W' c` says of it.
-/
module

public import Idealize.ShloMosaic.Lib.Pipeline.Frame
public import Idealize.ShloMosaic.Lib.Pipeline.FrameBody
public import Idealize.ShloMosaic.Lib.Pipeline.Kit
public import Idealize.ShloMosaic.Lib.Pipeline.Regions
public import Idealize.ShloMosaic.Lib.Pipeline.RegionArrays
public import Idealize.ShloMosaic.Lib.Pipeline.ArrRel

@[expose] public section

noncomputable section

namespace Cert.Region

open Idealize.ShloMosaic Idealize.ShloMosaic.TcCoe Idealize.ShloMosaic.Pipeline
open Idealize.SL Idealize.SL.RA
open Idealize.SL.BI (sProp bigSep bigSep_congr bigSep_map bigSep_mono)
open scoped Idealize.SL.BI
open Idealize.SL.BI.BIBase Idealize.SL.BI.Laws Idealize.SL.ProofMode Idealize.SL.Sem

set_option Elab.async false

variable {nD : Nat} {τ : Topo} {sig : RefSig} {Val : EltTy → Type} [∀ e, Nonempty (Val e)]
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

variable (pcs : P → PCfg sig Λ₀ Val) (a : (p : P) → (pcs p).Adm)
  (rdats : (p : P) → (c : Dev nD) → RDat τ Val Ix Name U Lvl (pin pcs a p) c) (ι : Ix)
  (defs₀ : Defs nD τ sig Val Λ₀) (𝒱₀ : Variants)
  (L : GSem nD τ sig → Finset Ix) (lv : GSem nD τ sig → Ix → Lvl) (p : P)

/-- What a core holds between two items: every unscoped buffer at `W c`, and nothing owed. -/
def thread (W : Dev nD → Valuation τ sig Val) (c : Dev nD) : sProp 𝕄 :=
  iprop(StableHlo.held (c : Thread nD τ) (ucRefs τ sig) (W c) ∗ ∃ Wd, owes (c : Thread nD τ) (0 : CellTallies nD τ sig Ix) Wd)

omit [Fintype P] [Preorder Lvl] in
/-- At the full share, the windows' arrays at contents `G` are `held` at a valuation that says the same of them. -/
theorem arrays_held (kit : PLaunchFacts (nD := nD) (τ := τ) pcs p) (c : Dev nD) (hshare : ∀ w, (rdats p c).share w = fullShare)
    (G : (w : Fin (pin pcs a p).W) → Buf Val (((pin pcs a p).win w).arr.view.loc (c.tc : Thread nD τ))) (W : Valuation τ sig Val)
    (hG : ∀ w, G w = W (Proc.devRef .tc (arrRef (pin pcs a p).spec w))) :
    ((rdats p c).arrays G : sProp 𝕄) = StableHlo.held (c.tc : Thread nD τ) (arrRefs (pcs p).spec) W :=
  Pipeline.arrays_held pcs a (fun p c => (rdats p c).withAfter fun _ _ _ => Classical.arbitrary _) p kit c hshare G W hG

omit [Fintype P] [Preorder Lvl] in
/-- The arrays after the last write-back, when what each may hold is decided. -/
theorem arraysAt_entails (kit : PLaunchFacts (nD := nD) (τ := τ) pcs p) (c : Dev nD) (hshare : ∀ w, (rdats p c).share w = fullShare)
    (n : Nat) (W : Valuation τ sig Val)
    (hW : ∀ w G, (rdats p c).ArrAt w n G → G = W (Proc.devRef .tc (arrRef (pin pcs a p).spec w))) :
    ((rdats p c).arraysAt n : sProp 𝕄) ⊢ StableHlo.held (c.tc : Thread nD τ) (arrRefs (pcs p).spec) W := by
  rw [← arrays_held pcs a rdats p kit c hshare (fun w => W (Proc.devRef .tc (arrRef (pin pcs a p).spec w))) W fun _ => rfl]
  refine bigSep_mono fun w _ => (show iprop(∃ F, ⌜(rdats p c).ArrAt w n F⌝
      ∗ ((pin pcs a p).win w).arr.view.loc (c.tc : Thread nD τ) ↦[((pin pcs a p).win w).arr.view.set]{(rdats p c).share w} F)
    ⊢ (((pin pcs a p).win w).arr.view.loc (c.tc : Thread nD τ) ↦[((pin pcs a p).win w).arr.view.set]{(rdats p c).share w}
        W (Proc.devRef .tc (arrRef (pin pcs a p).spec w)) : sProp 𝕄) from ?_)
  iintro ⟨%G, %hG, H⟩
  rw [← hW w G hG]
  iexact H

/-- A region whose arrays are taken out of the unscoped buffers and put back. -/
def seg (kit : PLaunchFacts (nD := nD) (τ := τ) pcs p) (hK : (pcs p).pre.K = 0)
    (hbody : ∀ c, (rdats p c).BodyObligation defs₀ 𝒱₀ ι Set.univ)
    (howed : ∀ c t, (rdats p c).owed t = 0) (hrec : ∀ c, (rdats p c).recorded 0 = Set.univ)
    (hshare : ∀ c w, (rdats p c).share w = fullShare)
    (hin : ∀ c, (scopedRest (pin pcs a p).spec c : sProp 𝕄) ⊢ (rdats p c).Φ 0)
    (hout : ∀ c, (rdats p c).Φ (Fin.last (pin pcs a p).N) ⊢ (scopedRest (pin pcs a p).spec c : sProp 𝕄))
    (W W' : Dev nD → Valuation τ sig Val)
    (hW : ∀ c w, (rdats p c).A w = W c (Proc.devRef .tc (arrRef (pin pcs a p).spec w)))
    (hW' : ∀ c w G, (rdats p c).ArrAt w (pin pcs a p).N G → G = W' c (Proc.devRef .tc (arrRef (pin pcs a p).spec w)))
    (hoff : ∀ c, ∀ b ∉ arrRefs (τ := τ) (pcs p).spec, W c b = W' c b) :
    RDat.RegionSeg pcs a rdats ι defs₀ 𝒱₀ L lv p where
  win := kit.to₀.win
  block_pos := kit.block_pos
  stage_whole := kit.stage_whole
  K := PEmpty
  osem k := k.elim
  ho := OwnSemFacts.none _
  hbody := hbody
  hwaits c := (show (levAts L lv : sProp 𝕄) ⊢ BI.emp from by iintro -; iempintro).trans
    (RDat.cellsWaits_of_owed_zero (pin pcs a) rdats ι p c (howed c))
  pre := thread W
  post := thread W'
  X _ := BI.emp
  Y _ := BI.emp
  Z c := StableHlo.held (c : Thread nD τ) (ucRefs τ sig \ arrRefs (pcs p).spec) (W c)
  hentry c := by
    unfold thread
    rw [ownSems0_none, prefHeld_of_none _ hK, StableHlo.held_sub_split (c : Thread nD τ) (arrRefs_sub_ucRefs (pcs p).spec kit.win.arr_unscoped) (W c),
      arrays_held pcs a rdats p kit c (hshare c) (rdats p c).A (W c) (hW c)]
    iintro ⟨⟨⟨Ha, HZ⟩, HO⟩, -, -⟩
    imodintro
    isplitl [Ha]; · iexact Ha
    isplitr; · iempintro
    isplitl [HO]
    · unfold RDat.owesAt owesWithin RDat.bound
      rw [howed c 0, hrec c]
      icases HO with ⟨%Wd, HO⟩; iexists Wd; isplitr; · ipureintro; exact fun _ _ => Or.inl trivial
      iexact HO
    isplitr; · iempintro
    iexact HZ
  hin c := (show _ ⊢ (scopedRest (pin pcs a p).spec c : sProp 𝕄) from by
    iintro ⟨-, -, Hr⟩; iexact Hr).trans (hin c)
  hout c := (hout c).trans (by
    rw [ownSems0_none]
    iintro Hr
    isplitr; · iempintro
    isplitr; · iempintro
    iexact Hr)
  hexit c := by
    unfold thread
    rw [StableHlo.held_sub_split (c : Thread nD τ) (arrRefs_sub_ucRefs (pcs p).spec kit.win.arr_unscoped) (W' c),
      StableHlo.held_congr (c : Thread nD τ) (S := ucRefs τ sig \ arrRefs (pcs p).spec)
        fun b hb => hoff c b (Finset.mem_sdiff.mp hb).2]
    iintro ⟨Ha, HO, -, HZ⟩
    imodintro
    isplitl [Ha HZ]
    · isplitl [Ha]
      · iapply (arraysAt_entails pcs a rdats p kit c (hshare c) _ (W' c) (hW' c)); iexact Ha
      · iexact HZ
    unfold RDat.owesAt owesWithin
    rw [howed c (Fin.last _)]
    icases HO with ⟨%Wd, -, HO⟩; iexists Wd; iexact HO

/-! ## What the body finds in an input's buffer, and what an output's array ends as -/

section Blocks

variable {cfg : Cfg sig Λ₀} {c : Dev nD}

variable (cfg c) in
/-- The block of an array's contents that a point's fetch brings in. -/
def block (w : Fin cfg.W) (A : Buf Val ((cfg.win w).arr.view.loc (c.tc : Thread nD τ))) (t : Fin cfg.N) :
    (cfg.win w).block.Idx → Val (cfg.win w).elt :=
  (cfg.win w).fill (cfg.grid.coords t) (fun _ => Classical.arbitrary _) (((cfg.win w).blk t).view.read Val A)

omit [Preorder Lvl] in
/-- Of an uncut input window whose buffer the body leaves as found, the body finds the array's block. -/
theorem finds_in (rd : RDat τ Val Ix Name U Lvl cfg c) (w : Fin cfg.W) (hw : (cfg.win w).isOut = false)
    (hclip : ∀ t a, (cfg.win w).clip (cfg.grid.coords t) a = none) (hkeep : ∀ t Y X, rd.after w t Y X → X = Y)
    (t : Fin cfg.N) (Y : (cfg.win w).block.Idx → Val (cfg.win w).elt) (h : rd.Finds w t Y) : Y = block cfg c w (rd.A w) t := by
  obtain ⟨d, rfl⟩ := rd.finds_in_eq_fetched w hw (fun t t' _ => funext fun a => (hclip t a).trans (hclip t' a).symm) hkeep t Y h
  exact (rd.withAfter fun _ _ _ => Classical.arbitrary _).fetched_of_clip_none w t (hclip t) d _

omit [Preorder Lvl] in
/-- If what the body leaves at the points that write back is decided, so is what the array ends as. -/
theorem arrAt_unique (rd : RDat τ Val Ix Name U Lvl cfg c)
    (aft : (w : Fin cfg.W) → Fin cfg.N → (cfg.win w).block.Idx → Val (cfg.win w).elt) (w : Fin cfg.W)
    (h : ∀ u X, (cfg.win w).flush u = true → rd.Leaves w u X → X = aft w u)
    (G : Buf Val ((cfg.win w).arr.view.loc (c.tc : Thread nD τ))) (hG : rd.ArrAt w cfg.N G) :
    G = (rd.withAfter aft).arrAt w cfg.N := by
  obtain ⟨X, hX, hA⟩ := hG.exists_exact
  exact hA aft fun u hu hf => (h u (X u) hf (hX u hu hf)).symm

end Blocks

end Cert.Region

end
-- ==== Proof.KernelIdeal.Body02.lean ====
/- The bodies of the first and the last kernel: on whole buffers they run, and leave their outputs at their one payload. -/
module

public import proofs.«01_k».proof.Proof.Gen.KernelIdeal.Points
public import proofs.«01_k».proof.Proof.Gen.KernelIdeal.Skeleton
public import Idealize.ShloMosaic.Lib.VecWindow
public import proofs.«01_k».proof.Proof.Gen.KernelIdeal.Launch
public import Idealize.ShloMosaic.Lib.Pipeline.FrameBody
public import Idealize.ShloMosaic.Lib.Tactic

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- Casting a block of columns of the matrix, and its product with the input, on whole buffers. -/
theorem body0 (𝒱₀ : Variants) (c : Dev nD) (i : grid0.Coords)
    (arg1 : Memref sig .tc .vmem S4096x1024 .f32) (harg1 : arg1.IsWhole) (arg2 : Memref sig .tc .vmem S80x4096 .f32) (harg2 : arg2.IsWhole)
    (arg3 : Memref sig .tc .vmem S4096x1024 .bf16) (harg3 : arg3.IsWhole) (arg4 : Memref sig .tc .vmem S80x1024 .f32) (harg4 : arg4.IsWhole)
    (l : Vec F S4096x1024 .f32) (x : Vec F S80x4096 .f32) (o : Vec F S4096x1024 .bf16) (o' : Vec F S80x1024 .f32)
    (E : Set ℕ) (K : PUnit → sProp 𝕄) :
    iprop(owns (c : Thread nD τ) arg1 fullShare l ∗ owns (c : Thread nD τ) arg2 fullShare x
        ∗ owns (c : Thread nD τ) arg3 fullShare o ∗ owns (c : Thread nD τ) arg4 fullShare o'
        ∗ (iprop(owns (c : Thread nD τ) arg1 fullShare l ∗ owns (c : Thread nD τ) arg2 fullShare x
          ∗ owns (c : Thread nD τ) arg3 fullShare (k0_pay1 l) ∗ owns (c : Thread nD τ) arg4 fullShare (k0_pay2 l x)) -∗ K ⟨⟩))
      ⊢ wp frame (wpE (defs₀ (F := F)) 𝒱₀ c none) E (cc0__cast_t1_body i arg1 harg1 arg2 harg2 arg3 harg3 arg4 harg4) K := by
  simp only [cc0__cast_t1_body_eq_skeleton]; unfold cc0__cast_t1_body_skel
  unfold owns
  iintro ⟨⟨%f0, %hf0, H0⟩, ⟨%f1, %hf1, H1⟩, ⟨%f2, %hf2, H2⟩, ⟨%f3, %hf3, H3⟩, Hk⟩
  sl_exec
  sl_step
  iapply Hk
  isplitl [H0]
  · iexists _; isplitr; swap
    · iexact H0
    ipureintro; exact hf0
  isplitl [H1]
  · iexists _; isplitr; swap
    · iexact H1
    ipureintro; exact hf1
  isplitl [H2]
  · iexists _; isplitr; swap
    · iexact H2
    ipureintro
    (try delta Cert.KernelIdeal.body0.sl.v0)
    exact (View.read_writes_full _ _ _ _ _).trans (congrArg k0_pay1 ((View.readAt_full _ _ _).trans hf0))
  · iexists _; isplitr; swap
    · iexact H3
    ipureintro
    (try delta Cert.KernelIdeal.body0.sl.v0)
    exact (View.read_writes_full _ _ _ _ _).trans (congrArg₂ k0_pay2 ((View.readAt_full _ _ _).trans hf0) ((View.readAt_full _ _ _).trans hf1))

/-- The last layer on whole buffers. -/
theorem body2 (𝒱₀ : Variants) (c : Dev nD)
    (arg0 : Memref sig .tc .vmem S8x40960 .f32) (harg0 : arg0.IsWhole) (arg1 : Memref sig .tc .vmem S40960x10 .f32) (harg1 : arg1.IsWhole)
    (arg2 : Memref sig .tc .vmem S1x10 .f32) (harg2 : arg2.IsWhole) (arg3 : Memref sig .tc .vmem S8x10 .f32) (harg3 : arg3.IsWhole)
    (h : Vec F S8x40960 .f32) (w : Vec F S40960x10 .f32) (b : Vec F S1x10 .f32) (o : Vec F S8x10 .f32)
    (E : Set ℕ) (K : PUnit → sProp 𝕄) :
    iprop(owns (c : Thread nD τ) arg0 fullShare h ∗ owns (c : Thread nD τ) arg1 fullShare w
        ∗ owns (c : Thread nD τ) arg2 fullShare b ∗ owns (c : Thread nD τ) arg3 fullShare o
        ∗ (iprop(owns (c : Thread nD τ) arg0 fullShare h ∗ owns (c : Thread nD τ) arg1 fullShare w
          ∗ owns (c : Thread nD τ) arg2 fullShare b ∗ owns (c : Thread nD τ) arg3 fullShare (k2_pay1 h w b)) -∗ K ⟨⟩))
      ⊢ wp frame (wpE (defs₀ (F := F)) 𝒱₀ c none) E (cc2__fc_body arg0 harg0 arg1 harg1 arg2 harg2 arg3 harg3) K := by
  simp only [cc2__fc_body_eq_skeleton]; unfold cc2__fc_body_skel
  unfold owns
  iintro ⟨⟨%f0, %hf0, H0⟩, ⟨%f1, %hf1, H1⟩, ⟨%f2, %hf2, H2⟩, ⟨%f3, %hf3, H3⟩, Hk⟩
  sl_exec
  sl_step
  iapply Hk
  isplitl [H0]
  · iexists _; isplitr; swap
    · iexact H0
    ipureintro; exact hf0
  isplitl [H1]
  · iexists _; isplitr; swap
    · iexact H1
    ipureintro; exact hf1
  isplitl [H2]
  · iexists _; isplitr; swap
    · iexact H2
    ipureintro; exact hf2
  · iexists _; isplitr; swap
    · iexact H3
    ipureintro
    refine (View.read_writes_full _ _ _ _ _).trans ?_
    rw [show View.readAt (Elt F) arg0.view _ f0 = h from (View.readAt_full _ _ _).trans hf0,
      show View.readAt (Elt F) arg1.view _ f1 = w from (View.readAt_full _ _ _).trans hf1,
      show View.readAt (Elt F) arg2.view _ f2 = b from (View.readAt_full _ _ _).trans hf2]

end Cert.KernelIdeal

end
-- ==== Proof.KernelIdeal.Step.lean ====
/- The recurrence kernel of the second region, one grid point at a time: what a point makes of the four scratch
   buffers and of the output block, as a plain function of vectors. -/
module

public import proofs.«01_k».proof.Proof.Gen.KernelIdeal.Points
public import proofs.«01_k».proof.Proof.Gen.KernelIdeal.Skeleton
public import Idealize.ShloMosaic.Lib.VecWindow
public import Idealize.ShloMosaic.Lib.WordCmp

@[expose] public section

set_option maxRecDepth 16384

noncomputable section

namespace Cert.KernelIdeal

open Idealize.ShloMosaic Idealize.ShloMosaic.TcCoe
open Cert.KernelIdeal.Gen

variable {F : FTy → Type} [FloatOps F]

/-- The four scratch buffers: the two Chebyshev polynomials at hand, the operand of the next product, the sum so far. -/
structure Scr (F : FTy → Type) [FloatOps F] where
  /-- The polynomial of even order. -/
  P0 : Vec F S80x4096 .f32
  /-- The polynomial of odd order. -/
  P1 : Vec F S80x4096 .f32
  /-- The operand of the product with the graph's matrix. -/
  T : Vec F S80x4096 .bf16
  /-- The weighted sum of the polynomials of the layer at hand. -/
  A : Vec F S80x4096 .f32

/-- The blocks a point reads: the matrix's columns, the layer input and its first product, the step's weights and
    bias, the last layer's weights and bias. -/
structure Ins (F : FTy → Type) [FloatOps F] where
  /-- A block of columns of the graph's matrix. -/
  L : Vec F S4096x2048 .bf16
  /-- The network's input. -/
  x : Vec F S80x4096 .f32
  /-- Its product with the matrix. -/
  y : Vec F S80x4096 .f32
  /-- The step's two weight matrices. -/
  w : Vec F S1x2x80x80 .f32
  /-- The step's bias. -/
  b : Vec F S1x80x1 .f32
  /-- The weights of the last polynomial of the last layer. -/
  wl : Vec F S80x80 .f32
  /-- The last layer's bias. -/
  bl : Vec F S80x1 .f32

/-- The step's first weight matrix. -/
abbrev Ins.w0 (x : Ins F) : Vec F S1x1x80x80 .f32 :=
  VecWindow.window (s := S1x2x80x80) x.w ![0, 0, 0, 0] S1x1x80x80.size inb_S1x2x80x80_S1x1x80x80_0_0_0_0

/-- The step's second weight matrix. -/
abbrev Ins.w1 (x : Ins F) : Vec F S1x1x80x80 .f32 :=
  VecWindow.window (s := S1x2x80x80) x.w ![0, 1, 0, 0] S1x1x80x80.size inb_S1x2x80x80_S1x1x80x80_0_1_0_0

/-- The step's number within its layer, as the body computes it. -/
abbrev qOf (i : grid1.Coords) : BitVec 32 := Scalar.remsi (Scalar.addi (BitVec.ofNat 32 (i 0).val) 1#32) 4#32

/-- The first point of all. -/
abbrev first (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The first point of a step that ends a layer. -/
abbrev ends (i : grid1.Coords) : Prop :=
  (Scalar.cmpi .ne (Scalar.extui (Scalar.andi (Scalar.cmpi .eq (qOf i) 0#32) (Scalar.cmpi .eq (BitVec.ofNat 32 (i 1).val) 0#32))) 0#32) = 1#1
/-- The first point of a later step of odd number. -/
abbrev odd (i : grid1.Coords) : Prop :=
  (Scalar.cmpi .ne (Scalar.extui (Scalar.andi (Scalar.andi (Scalar.cmpi .eq (Scalar.remsi (qOf i) 2#32) 1#32) (Scalar.cmpi .sgt (BitVec.ofNat 32 (i 0).val) 0#32)) (Scalar.cmpi .eq (BitVec.ofNat 32 (i 1).val) 0#32))) 0#32) = 1#1
/-- The first point of a step of number two. -/
abbrev two (i : grid1.Coords) : Prop :=
  (Scalar.cmpi .ne (Scalar.extui (Scalar.andi (Scalar.cmpi .eq (qOf i) 2#32) (Scalar.cmpi .eq (BitVec.ofNat 32 (i 1).val) 0#32))) 0#32) = 1#1

/-- What the opening of a point leaves in the scratch buffers. -/
def opening (i : grid1.Coords) (x : Ins F) (s : Scr F) : Scr F :=
  if first i then ⟨k1_pay6 x.x, k1_pay7 x.y, k1_pay8 x.y, k1_pay9 x.x x.y x.w1 x.w0⟩
  else if ends i then
    ⟨k1_pay11 s.A x.w0 s.P0 x.b, s.P1, k1_pay12 s.A x.w0 s.P0 x.b, k1_pay13 s.A x.w0 s.P0 x.b x.w1⟩
  else if odd i then ⟨s.P0, s.P1, k1_pay15 s.P1, k1_pay14 s.A x.w0 s.P1⟩
  else if two i then ⟨s.P0, s.P1, k1_pay17 s.P0, k1_pay16 s.A x.w0 s.P0⟩
  else s

/-- Where a point's block of columns starts. -/
abbrev col (i : grid1.Coords) : Fin 2 → ℕ := ![0, 2048 * (i 1).val]

theorem col_inb (i : grid1.Coords) : ∀ a, col i a + S80x2048.size a ≤ S80x4096.size a := by
  have h : (i 1).val < 2 := (i 1).isLt
  intro a
  fin_cases a
  · show 0 + 80 ≤ 80; omega
  · show 2048 * (i 1).val + 2048 ≤ 4096; omega

/-- A point's block of columns. -/
def blk (i : grid1.Coords) (v : Vec F S80x4096 .f32) : Vec F S80x2048 .f32 :=
  VecWindow.window (s := S80x4096) v (col i) S80x2048.size (col_inb i)

/-- A point's block of columns replaced. -/
def putBlk (i : grid1.Coords) (v : Vec F S80x4096 .f32) (w : Vec F S80x2048 .f32) : Vec F S80x4096 .f32 :=
  VecWindow.put (s := S80x4096) v (col i) S80x2048.size w

/-- What a point leaves in the scratch buffers after its opening: the recurrence on its block of columns. -/
def advance (i : grid1.Coords) (x : Ins F) (s : Scr F) : Scr F :=
  ⟨if k1_cond6 i = 1#1 then putBlk i s.P0 (k1_pay2 (k1_pay18 s.T x.L) (blk i s.P0)) else s.P0,
   if k1_cond5 i = 1#1 then putBlk i s.P1 (k1_pay1 (qOf i) (k1_pay18 s.T x.L) (blk i s.P1)) else s.P1,
   s.T, s.A⟩

/-- What a point leaves in the scratch buffers. -/
def step (i : grid1.Coords) (x : Ins F) (s : Scr F) : Scr F := advance i x (opening i x s)

/-- What a point leaves in the output's buffer. -/
def emit (i : grid1.Coords) (x : Ins F) (s : Scr F) (o : Vec F S80x4096 .f32) : Vec F S80x4096 .f32 :=
  if k1_cond7 i = 1#1 then putBlk i o (k1_pay3 (blk i (step i x s).P0) (blk i (step i x s).A) x.wl x.bl) else o

set_option synthInstance.maxSize 4096 in
set_option synthInstance.maxHeartbeats 1000000 in
/-- At most one opening applies; a block of one of the two polynomials is renewed; the output is written in the last step. -/
theorem cases : ∀ i : grid1.Coords,
    (first i ∧ ¬ ends i ∧ ¬ odd i ∧ ¬ two i ∧ ¬ k1_cond5 i = 1#1 ∧ k1_cond6 i = 1#1 ∧ ¬ k1_cond7 i = 1#1)
    ∨ (¬ first i ∧ ¬ ends i ∧ ¬ odd i ∧ ¬ two i ∧ ¬ k1_cond5 i = 1#1 ∧ k1_cond6 i = 1#1 ∧ ¬ k1_cond7 i = 1#1)
    ∨ (¬ first i ∧ ¬ ends i ∧ ¬ odd i ∧ two i ∧ k1_cond5 i = 1#1 ∧ ¬ k1_cond6 i = 1#1 ∧ ¬ k1_cond7 i = 1#1)
    ∨ (¬ first i ∧ ¬ ends i ∧ ¬ odd i ∧ ¬ two i ∧ k1_cond5 i = 1#1 ∧ ¬ k1_cond6 i = 1#1 ∧ ¬ k1_cond7 i = 1#1)
    ∨ (¬ first i ∧ ¬ ends i ∧ odd i ∧ ¬ two i ∧ ¬ k1_cond5 i = 1#1 ∧ k1_cond6 i = 1#1 ∧ ¬ k1_cond7 i = 1#1)
    ∨ (¬ first i ∧ ends i ∧ ¬ odd i ∧ ¬ two i ∧ k1_cond5 i = 1#1 ∧ ¬ k1_cond6 i = 1#1 ∧ ¬ k1_cond7 i = 1#1)
    ∨ (¬ first i ∧ ¬ ends i ∧ odd i ∧ ¬ two i ∧ ¬ k1_cond5 i = 1#1 ∧ k1_cond6 i = 1#1 ∧ k1_cond7 i = 1#1)
    ∨ (¬ first i ∧ ¬ ends i ∧ ¬ odd i ∧ ¬ two i ∧ ¬ k1_cond5 i = 1#1 ∧ k1_cond6 i = 1#1 ∧ k1_cond7 i = 1#1) := by
  decide +kernel

end Cert.KernelIdeal

end
-- ==== Proof.KernelIdeal.Body1.lean ====
/- The recurrence kernel's body: on whole buffers it runs, and leaves the scratch buffers and the output block as
   `step` and `emit` say. -/
module

public import proofs.«01_k».proof.Proof.KernelIdeal.Step
public import proofs.«01_k».proof.Proof.Gen.KernelIdeal.Launch
public import Idealize.ShloMosaic.Lib.Pipeline.FrameBody
public import Idealize.ShloMosaic.Lib.Tactic

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

section Accesses

variable {sp : Space} {e : EltTy}

/-- A load of a whole buffer of 80 rows. -/
theorem ld80 (v : View sig .tc sp S80x4096 e) (f : v.ty.Contents (Elt F)) (inb) :
    v.readAt (Elt F) (Rect.unit (s := S80x4096) ![0, 0] ![80, 4096] inb).toLoadRect f = v.read (Elt F) f := View.readAt_full v f inb

/-- A load of a whole block of the matrix. -/
theorem ldL (v : View sig .tc sp S4096x2048 e) (f : v.ty.Contents (Elt F)) (inb) :
    v.readAt (Elt F) (Rect.unit (s := S4096x2048) ![0, 0] ![4096, 2048] inb).toLoadRect f = v.read (Elt F) f := View.readAt_full v f inb

/-- A load of a step's whole bias. -/
theorem ldb (v : View sig .tc sp S1x80x1 e) (f : v.ty.Contents (Elt F)) (inb) :
    v.readAt (Elt F) (Rect.unit (s := S1x80x1) ![0, 0, 0] ![1, 80, 1] inb).toLoadRect f = v.read (Elt F) f := View.readAt_full v f inb

/-- A load of the last weights. -/
theorem ldwl (v : View sig .tc sp S80x80 e) (f : v.ty.Contents (Elt F)) (inb) :
    v.readAt (Elt F) (Rect.unit (s := S80x80) ![0, 0] ![80, 80] inb).toLoadRect f = v.read (Elt F) f := View.readAt_full v f inb

/-- A load of the last bias. -/
theorem ldbl (v : View sig .tc sp S80x1 e) (f : v.ty.Contents (Elt F)) (inb) :
    v.readAt (Elt F) (Rect.unit (s := S80x1) ![0, 0] ![80, 1] inb).toLoadRect f = v.read (Elt F) f := View.readAt_full v f inb

/-- A load of one of a step's weight matrices. -/
theorem ldw (v : View sig .tc sp S1x2x80x80 e) (f : v.ty.Contents (Elt F)) (off) (inb) :
    v.readAt (Elt F) (Rect.unit (s := S1x2x80x80) off ![1, 1, 80, 80] inb).toLoadRect f
      = VecWindow.window (s := S1x2x80x80) (v.read (Elt F) f) off S1x1x80x80.size inb := View.readAt_unit v f inb rfl inb

/-- A load of a block of columns, through offsets in closed form. -/
theorem ldblk (v : View sig .tc sp S80x4096 .f32) (f : v.ty.Contents (Elt F)) (i : grid1.Coords) {off} (h : off = col i) (inb) :
    v.readAt (Elt F) (Rect.unit (s := S80x4096) off ![80, 2048] inb).toLoadRect f = blk i (v.read (Elt F) f) :=
  View.readAt_unit v f inb h (col_inb i)

/-- A store of a whole buffer of 80 rows. -/
theorem st80 (v : View sig .tc sp S80x4096 e) (f : v.ty.Contents (Elt F)) (inb) (w) (L : List (View.Piece (Elt F) S80x4096 e)) :
    v.read (Elt F) (v.writes (Elt F) f (⟨Rect.unit (s := S80x4096) ![0, 0] ![80, 4096] inb, w⟩ :: L)) = w := View.read_writes_full v f inb w L

/-- A store of a block of columns. -/
theorem stblk (v : View sig .tc sp S80x4096 .f32) (f : v.ty.Contents (Elt F)) (i : grid1.Coords) {off} (h : off = col i) (inb) (w)
    (L : List (View.Piece (Elt F) S80x4096 .f32)) :
    v.read (Elt F) (v.writes (Elt F) f (⟨Rect.unit (s := S80x4096) off ![80, 2048] inb, w⟩ :: L))
      = putBlk i (v.read (Elt F) (v.writes (Elt F) f L)) w := View.read_writes_cons_put v f inb w L h

/-- A block of columns just replaced. -/
theorem blk_putBlk (i : grid1.Coords) (v : Vec F S80x4096 .f32) (w : Vec F S80x2048 .f32) : blk i (putBlk i v w) = w :=
  VecWindow.window_put_same _ _ _ _ _

end Accesses

set_option maxHeartbeats 1000000 in
/-- One point of the recurrence on whole buffers. -/
theorem body1 (𝒱₀ : Variants) (c : Dev nD) (i : grid1.Coords)
    (arg2 : Memref sig .tc .vmem S4096x2048 .bf16) (harg2 : arg2.IsWhole) (arg3 : Memref sig .tc .vmem S80x4096 .f32) (harg3 : arg3.IsWhole)
    (arg4 : Memref sig .tc .vmem S80x4096 .f32) (harg4 : arg4.IsWhole) (arg5 : Memref sig .tc .vmem S1x2x80x80 .f32) (harg5 : arg5.IsWhole)
    (arg6 : Memref sig .tc .vmem S1x80x1 .f32) (harg6 : arg6.IsWhole) (arg7 : Memref sig .tc .vmem S80x80 .f32) (harg7 : arg7.IsWhole)
    (arg8 : Memref sig .tc .vmem S80x1 .f32) (harg8 : arg8.IsWhole) (arg9 : Memref sig .tc .vmem S80x4096 .f32) (harg9 : arg9.IsWhole)
    (arg10 : Memref sig .tc .vmem S80x4096 .f32) (harg10 : arg10.IsWhole) (arg11 : Memref sig .tc .vmem S80x4096 .f32) (harg11 : arg11.IsWhole)
    (arg12 : Memref sig .tc .vmem S80x4096 .bf16) (harg12 : arg12.IsWhole) (arg13 : Memref sig .tc .vmem S80x4096 .f32) (harg13 : arg13.IsWhole)
    (x : Ins F) (o : Vec F S80x4096 .f32) (s : Scr F) (E : Set ℕ) (K : PUnit → sProp 𝕄) :
    iprop(owns (c : Thread nD τ) arg2 fullShare x.L ∗ owns (c : Thread nD τ) arg3 fullShare x.x ∗ owns (c : Thread nD τ) arg4 fullShare x.y
        ∗ owns (c : Thread nD τ) arg5 fullShare x.w ∗ owns (c : Thread nD τ) arg6 fullShare x.b ∗ owns (c : Thread nD τ) arg7 fullShare x.wl
        ∗ owns (c : Thread nD τ) arg8 fullShare x.bl ∗ owns (c : Thread nD τ) arg9 fullShare o
        ∗ owns (c : Thread nD τ) arg10 fullShare s.P0 ∗ owns (c : Thread nD τ) arg11 fullShare s.P1
        ∗ owns (c : Thread nD τ) arg12 fullShare s.T ∗ owns (c : Thread nD τ) arg13 fullShare s.A
        ∗ (iprop(owns (c : Thread nD τ) arg2 fullShare x.L ∗ owns (c : Thread nD τ) arg3 fullShare x.x ∗ owns (c : Thread nD τ) arg4 fullShare x.y
          ∗ owns (c : Thread nD τ) arg5 fullShare x.w ∗ owns (c : Thread nD τ) arg6 fullShare x.b ∗ owns (c : Thread nD τ) arg7 fullShare x.wl
          ∗ owns (c : Thread nD τ) arg8 fullShare x.bl ∗ owns (c : Thread nD τ) arg9 fullShare (emit i x s o)
          ∗ owns (c : Thread nD τ) arg10 fullShare (step i x s).P0 ∗ owns (c : Thread nD τ) arg11 fullShare (step i x s).P1
          ∗ owns (c : Thread nD τ) arg12 fullShare (step i x s).T ∗ owns (c : Thread nD τ) arg13 fullShare (step i x s).A) -∗ K ⟨⟩))
      ⊢ wp frame (wpE (defs₀ (F := F)) 𝒱₀ c none) E
          (cc1__gcn_body i arg2 harg2 arg3 harg3 arg4 harg4 arg5 harg5 arg6 harg6 arg7 harg7 arg8 harg8 arg9 harg9 arg10 harg10 arg11 harg11 arg12 harg12 arg13 harg13) K := by
  simp only [cc1__gcn_body_eq_skeleton]; unfold cc1__gcn_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain h | h | h | h | h | h | h | h := cases i
  all_goals
    obtain ⟨hc0, hc1, hc2, hc3, hc4, hc5, hc6⟩ := h
    sl_exec (disch := first | sl_exact hc0 | sl_exact hc1 | sl_exact hc2 | sl_exact hc3 | sl_exact hc4 | sl_exact hc5 | sl_exact hc6)
    sl_step
    iapply Hk
    isplitl [H0]
    · iexists _; isplitr; swap
      · iexact H0
      ipureintro; exact hf0
    isplitl [H1]
    · iexists _; isplitr; swap
      · iexact H1
      ipureintro; exact hf1
    isplitl [H2]
    · iexists _; isplitr; swap
      · iexact H2
      ipureintro; exact hf2
    isplitl [H3]
    · iexists _; isplitr; swap
      · iexact H3
      ipureintro; exact hf3
    isplitl [H4]
    · iexists _; isplitr; swap
      · iexact H4
      ipureintro; exact hf4
    isplitl [H5]
    · iexists _; isplitr; swap
      · iexact H5
      ipureintro; exact hf5
    isplitl [H6]
    · iexists _; isplitr; swap
      · iexact H6
      ipureintro; exact hf6
    isplitl [H7]
    · iexists _; isplitr; swap
      · iexact H7
      ipureintro
      simp only [emit, step, advance, opening]
      first | simp only [if_pos hc0] | simp only [if_neg hc0] | skip
      first | simp only [if_pos hc1] | simp only [if_neg hc1] | skip
      first | simp only [if_pos hc2] | simp only [if_neg hc2] | skip
      first | simp only [if_pos hc3] | simp only [if_neg hc3] | skip
      first | simp only [if_pos hc4] | simp only [if_neg hc4] | skip
      first | simp only [if_pos hc5] | simp only [if_neg hc5] | skip
      first | simp only [if_pos hc6] | simp only [if_neg hc6] | skip
      (try delta Cert.KernelIdeal.body1.sl.v42); (try delta Cert.KernelIdeal.body1.sl.v42_1)
      (try delta Cert.KernelIdeal.body1.sl.H8_1); (try delta Cert.KernelIdeal.body1.sl.H8_1_1); (try delta Cert.KernelIdeal.body1.sl.H8_1_2)
      (try delta Cert.KernelIdeal.body1.sl.r); (try delta Cert.KernelIdeal.body1.sl.r_1); (try delta Cert.KernelIdeal.body1.sl.r_2); (try delta Cert.KernelIdeal.body1.sl.r_3); (try delta Cert.KernelIdeal.body1.sl.r_4); (try delta Cert.KernelIdeal.body1.sl.r_5); (try delta Cert.KernelIdeal.body1.sl.r_6); (try delta Cert.KernelIdeal.body1.sl.r_7)
      (try delta Cert.KernelIdeal.body1.sl.v44); (try delta Cert.KernelIdeal.body1.sl.v44_1); (try delta Cert.KernelIdeal.body1.sl.v44_2); (try delta Cert.KernelIdeal.body1.sl.v44_3); (try delta Cert.KernelIdeal.body1.sl.v44_4); (try delta Cert.KernelIdeal.body1.sl.v44_5); (try delta Cert.KernelIdeal.body1.sl.v44_6)
      (try delta Cert.KernelIdeal.body1.sl.H8_1)
      (try delta Cert.KernelIdeal.body1.sl.H11_1)
      (try delta Cert.KernelIdeal.body1.sl.v45); (try delta Cert.KernelIdeal.body1.sl.v45_1); (try delta Cert.KernelIdeal.body1.sl.v45_2)
      (try delta Cert.KernelIdeal.body1.sl.v25); (try delta Cert.KernelIdeal.body1.sl.v25_1); (try delta Cert.KernelIdeal.body1.sl.v25_2); (try delta Cert.KernelIdeal.body1.sl.v25_3); (try delta Cert.KernelIdeal.body1.sl.v25_4)
      (try delta Cert.KernelIdeal.body1.sl.H10_1); (try delta Cert.KernelIdeal.body1.sl.H10_1_1); (try delta Cert.KernelIdeal.body1.sl.H10_1_2); (try delta Cert.KernelIdeal.body1.sl.H10_1_3); (try delta Cert.KernelIdeal.body1.sl.H10_1_4)
      (try delta Cert.KernelIdeal.body1.sl.v1); (try delta Cert.KernelIdeal.body1.sl.v1_1); (try delta Cert.KernelIdeal.body1.sl.v1_2); (try delta Cert.KernelIdeal.body1.sl.v1_3); (try delta Cert.KernelIdeal.body1.sl.v1_4); (try delta Cert.KernelIdeal.body1.sl.v1_5); (try delta Cert.KernelIdeal.body1.sl.v1_6); (try delta Cert.KernelIdeal.body1.sl.v1_7)
      (try delta Cert.KernelIdeal.body1.sl.v0); (try delta Cert.KernelIdeal.body1.sl.v0_1); (try delta Cert.KernelIdeal.body1.sl.v0_2); (try delta Cert.KernelIdeal.body1.sl.v0_3); (try delta Cert.KernelIdeal.body1.sl.v0_4); (try delta Cert.KernelIdeal.body1.sl.v0_5); (try delta Cert.KernelIdeal.body1.sl.v0_6); (try delta Cert.KernelIdeal.body1.sl.v0_7)
      try simp only [View.readCov, ld80, ldL, ldb, ldwl, ldbl, ldw, ldblk _ _ i (k1_off1_eq i), ldblk _ _ i (k1_off2_eq i),
          ldblk _ _ i (k1_off3_eq i), st80, stblk _ _ i (k1_off1_eq i), stblk _ _ i (k1_off2_eq i), stblk _ _ i (k1_off3_eq i),
          View.writes_nil, blk_putBlk, hf0, hf1, hf2, hf3, hf4, hf5, hf6, hf7, hf8, hf9, hf10, hf11]
    isplitl [H8]
    · iexists _; isplitr; swap
      · iexact H8
      ipureintro
      simp only [emit, step, advance, opening]
      first | simp only [if_pos hc0] | simp only [if_neg hc0] | skip
      first | simp only [if_pos hc1] | simp only [if_neg hc1] | skip
      first | simp only [if_pos hc2] | simp only [if_neg hc2] | skip
      first | simp only [if_pos hc3] | simp only [if_neg hc3] | skip
      first | simp only [if_pos hc4] | simp only [if_neg hc4] | skip
      first | simp only [if_pos hc5] | simp only [if_neg hc5] | skip
      first | simp only [if_pos hc6] | simp only [if_neg hc6] | skip
      (try delta Cert.KernelIdeal.body1.sl.v42); (try delta Cert.KernelIdeal.body1.sl.v42_1)
      (try delta Cert.KernelIdeal.body1.sl.H8_1); (try delta Cert.KernelIdeal.body1.sl.H8_1_1); (try delta Cert.KernelIdeal.body1.sl.H8_1_2)
      (try delta Cert.KernelIdeal.body1.sl.r); (try delta Cert.KernelIdeal.body1.sl.r_1); (try delta Cert.KernelIdeal.body1.sl.r_2); (try delta Cert.KernelIdeal.body1.sl.r_3); (try delta Cert.KernelIdeal.body1.sl.r_4); (try delta Cert.KernelIdeal.body1.sl.r_5); (try delta Cert.KernelIdeal.body1.sl.r_6); (try delta Cert.KernelIdeal.body1.sl.r_7)
      (try delta Cert.KernelIdeal.body1.sl.v44); (try delta Cert.KernelIdeal.body1.sl.v44_1); (try delta Cert.KernelIdeal.body1.sl.v44_2); (try delta Cert.KernelIdeal.body1.sl.v44_3); (try delta Cert.KernelIdeal.body1.sl.v44_4); (try delta Cert.KernelIdeal.body1.sl.v44_5); (try delta Cert.KernelIdeal.body1.sl.v44_6)
      (try delta Cert.KernelIdeal.body1.sl.H8_1)
      (try delta Cert.KernelIdeal.body1.sl.H11_1)
      (try delta Cert.KernelIdeal.body1.sl.v45); (try delta Cert.KernelIdeal.body1.sl.v45_1); (try delta Cert.KernelIdeal.body1.sl.v45_2)
      (try delta Cert.KernelIdeal.body1.sl.v25); (try delta Cert.KernelIdeal.body1.sl.v25_1); (try delta Cert.KernelIdeal.body1.sl.v25_2); (try delta Cert.KernelIdeal.body1.sl.v25_3); (try delta Cert.KernelIdeal.body1.sl.v25_4)
      (try delta Cert.KernelIdeal.body1.sl.H10_1); (try delta Cert.KernelIdeal.body1.sl.H10_1_1); (try delta Cert.KernelIdeal.body1.sl.H10_1_2); (try delta Cert.KernelIdeal.body1.sl.H10_1_3); (try delta Cert.KernelIdeal.body1.sl.H10_1_4)
      (try delta Cert.KernelIdeal.body1.sl.v1); (try delta Cert.KernelIdeal.body1.sl.v1_1); (try delta Cert.KernelIdeal.body1.sl.v1_2); (try delta Cert.KernelIdeal.body1.sl.v1_3); (try delta Cert.KernelIdeal.body1.sl.v1_4); (try delta Cert.KernelIdeal.body1.sl.v1_5); (try delta Cert.KernelIdeal.body1.sl.v1_6); (try delta Cert.KernelIdeal.body1.sl.v1_7)
      (try delta Cert.KernelIdeal.body1.sl.v0); (try delta Cert.KernelIdeal.body1.sl.v0_1); (try delta Cert.KernelIdeal.body1.sl.v0_2); (try delta Cert.KernelIdeal.body1.sl.v0_3); (try delta Cert.KernelIdeal.body1.sl.v0_4); (try delta Cert.KernelIdeal.body1.sl.v0_5); (try delta Cert.KernelIdeal.body1.sl.v0_6); (try delta Cert.KernelIdeal.body1.sl.v0_7)
      try simp only [View.readCov, ld80, ldL, ldb, ldwl, ldbl, ldw, ldblk _ _ i (k1_off1_eq i), ldblk _ _ i (k1_off2_eq i),
          ldblk _ _ i (k1_off3_eq i), st80, stblk _ _ i (k1_off1_eq i), stblk _ _ i (k1_off2_eq i), stblk _ _ i (k1_off3_eq i),
          View.writes_nil, blk_putBlk, hf0, hf1, hf2, hf3, hf4, hf5, hf6, hf7, hf8, hf9, hf10, hf11]
    isplitl [H9]
    · iexists _; isplitr; swap
      · iexact H9
      ipureintro
      simp only [emit, step, advance, opening]
      first | simp only [if_pos hc0] | simp only [if_neg hc0] | skip
      first | simp only [if_pos hc1] | simp only [if_neg hc1] | skip
      first | simp only [if_pos hc2] | simp only [if_neg hc2] | skip
      first | simp only [if_pos hc3] | simp only [if_neg hc3] | skip
      first | simp only [if_pos hc4] | simp only [if_neg hc4] | skip
      first | simp only [if_pos hc5] | simp only [if_neg hc5] | skip
      first | simp only [if_pos hc6] | simp only [if_neg hc6] | skip
      (try delta Cert.KernelIdeal.body1.sl.v42); (try delta Cert.KernelIdeal.body1.sl.v42_1)
      (try delta Cert.KernelIdeal.body1.sl.H8_1); (try delta Cert.KernelIdeal.body1.sl.H8_1_1); (try delta Cert.KernelIdeal.body1.sl.H8_1_2)
      (try delta Cert.KernelIdeal.body1.sl.r); (try delta Cert.KernelIdeal.body1.sl.r_1); (try delta Cert.KernelIdeal.body1.sl.r_2); (try delta Cert.KernelIdeal.body1.sl.r_3); (try delta Cert.KernelIdeal.body1.sl.r_4); (try delta Cert.KernelIdeal.body1.sl.r_5); (try delta Cert.KernelIdeal.body1.sl.r_6); (try delta Cert.KernelIdeal.body1.sl.r_7)
      (try delta Cert.KernelIdeal.body1.sl.v44); (try delta Cert.KernelIdeal.body1.sl.v44_1); (try delta Cert.KernelIdeal.body1.sl.v44_2); (try delta Cert.KernelIdeal.body1.sl.v44_3); (try delta Cert.KernelIdeal.body1.sl.v44_4); (try delta Cert.KernelIdeal.body1.sl.v44_5); (try delta Cert.KernelIdeal.body1.sl.v44_6)
      (try delta Cert.KernelIdeal.body1.sl.H8_1)
      (try delta Cert.KernelIdeal.body1.sl.H11_1)
      (try delta Cert.KernelIdeal.body1.sl.v45); (try delta Cert.KernelIdeal.body1.sl.v45_1); (try delta Cert.KernelIdeal.body1.sl.v45_2)
      (try delta Cert.KernelIdeal.body1.sl.v25); (try delta Cert.KernelIdeal.body1.sl.v25_1); (try delta Cert.KernelIdeal.body1.sl.v25_2); (try delta Cert.KernelIdeal.body1.sl.v25_3); (try delta Cert.KernelIdeal.body1.sl.v25_4)
      (try delta Cert.KernelIdeal.body1.sl.H10_1); (try delta Cert.KernelIdeal.body1.sl.H10_1_1); (try delta Cert.KernelIdeal.body1.sl.H10_1_2); (try delta Cert.KernelIdeal.body1.sl.H10_1_3); (try delta Cert.KernelIdeal.body1.sl.H10_1_4)
      (try delta Cert.KernelIdeal.body1.sl.v1); (try delta Cert.KernelIdeal.body1.sl.v1_1); (try delta Cert.KernelIdeal.body1.sl.v1_2); (try delta Cert.KernelIdeal.body1.sl.v1_3); (try delta Cert.KernelIdeal.body1.sl.v1_4); (try delta Cert.KernelIdeal.body1.sl.v1_5); (try delta Cert.KernelIdeal.body1.sl.v1_6); (try delta Cert.KernelIdeal.body1.sl.v1_7)
      (try delta Cert.KernelIdeal.body1.sl.v0); (try delta Cert.KernelIdeal.body1.sl.v0_1); (try delta Cert.KernelIdeal.body1.sl.v0_2); (try delta Cert.KernelIdeal.body1.sl.v0_3); (try delta Cert.KernelIdeal.body1.sl.v0_4); (try delta Cert.KernelIdeal.body1.sl.v0_5); (try delta Cert.KernelIdeal.body1.sl.v0_6); (try delta Cert.KernelIdeal.body1.sl.v0_7)
      try simp only [View.readCov, ld80, ldL, ldb, ldwl, ldbl, ldw, ldblk _ _ i (k1_off1_eq i), ldblk _ _ i (k1_off2_eq i),
          ldblk _ _ i (k1_off3_eq i), st80, stblk _ _ i (k1_off1_eq i), stblk _ _ i (k1_off2_eq i), stblk _ _ i (k1_off3_eq i),
          View.writes_nil, blk_putBlk, hf0, hf1, hf2, hf3, hf4, hf5, hf6, hf7, hf8, hf9, hf10, hf11]
    isplitl [H10]
    · iexists _; isplitr; swap
      · iexact H10
      ipureintro
      simp only [emit, step, advance, opening]
      first | simp only [if_pos hc0] | simp only [if_neg hc0] | skip
      first | simp only [if_pos hc1] | simp only [if_neg hc1] | skip
      first | simp only [if_pos hc2] | simp only [if_neg hc2] | skip
      first | simp only [if_pos hc3] | simp only [if_neg hc3] | skip
      first | simp only [if_pos hc4] | simp only [if_neg hc4] | skip
      first | simp only [if_pos hc5] | simp only [if_neg hc5] | skip
      first | simp only [if_pos hc6] | simp only [if_neg hc6] | skip
      (try delta Cert.KernelIdeal.body1.sl.v42); (try delta Cert.KernelIdeal.body1.sl.v42_1)
      (try delta Cert.KernelIdeal.body1.sl.H8_1); (try delta Cert.KernelIdeal.body1.sl.H8_1_1); (try delta Cert.KernelIdeal.body1.sl.H8_1_2)
      (try delta Cert.KernelIdeal.body1.sl.r); (try delta Cert.KernelIdeal.body1.sl.r_1); (try delta Cert.KernelIdeal.body1.sl.r_2); (try delta Cert.KernelIdeal.body1.sl.r_3); (try delta Cert.KernelIdeal.body1.sl.r_4); (try delta Cert.KernelIdeal.body1.sl.r_5); (try delta Cert.KernelIdeal.body1.sl.r_6); (try delta Cert.KernelIdeal.body1.sl.r_7)
      (try delta Cert.KernelIdeal.body1.sl.v44); (try delta Cert.KernelIdeal.body1.sl.v44_1); (try delta Cert.KernelIdeal.body1.sl.v44_2); (try delta Cert.KernelIdeal.body1.sl.v44_3); (try delta Cert.KernelIdeal.body1.sl.v44_4); (try delta Cert.KernelIdeal.body1.sl.v44_5); (try delta Cert.KernelIdeal.body1.sl.v44_6)
      (try delta Cert.KernelIdeal.body1.sl.H8_1)
      (try delta Cert.KernelIdeal.body1.sl.H11_1)
      (try delta Cert.KernelIdeal.body1.sl.v45); (try delta Cert.KernelIdeal.body1.sl.v45_1); (try delta Cert.KernelIdeal.body1.sl.v45_2)
      (try delta Cert.KernelIdeal.body1.sl.v25); (try delta Cert.KernelIdeal.body1.sl.v25_1); (try delta Cert.KernelIdeal.body1.sl.v25_2); (try delta Cert.KernelIdeal.body1.sl.v25_3); (try delta Cert.KernelIdeal.body1.sl.v25_4)
      (try delta Cert.KernelIdeal.body1.sl.H10_1); (try delta Cert.KernelIdeal.body1.sl.H10_1_1); (try delta Cert.KernelIdeal.body1.sl.H10_1_2); (try delta Cert.KernelIdeal.body1.sl.H10_1_3); (try delta Cert.KernelIdeal.body1.sl.H10_1_4)
      (try delta Cert.KernelIdeal.body1.sl.v1); (try delta Cert.KernelIdeal.body1.sl.v1_1); (try delta Cert.KernelIdeal.body1.sl.v1_2); (try delta Cert.KernelIdeal.body1.sl.v1_3); (try delta Cert.KernelIdeal.body1.sl.v1_4); (try delta Cert.KernelIdeal.body1.sl.v1_5); (try delta Cert.KernelIdeal.body1.sl.v1_6); (try delta Cert.KernelIdeal.body1.sl.v1_7)
      (try delta Cert.KernelIdeal.body1.sl.v0); (try delta Cert.KernelIdeal.body1.sl.v0_1); (try delta Cert.KernelIdeal.body1.sl.v0_2); (try delta Cert.KernelIdeal.body1.sl.v0_3); (try delta Cert.KernelIdeal.body1.sl.v0_4); (try delta Cert.KernelIdeal.body1.sl.v0_5); (try delta Cert.KernelIdeal.body1.sl.v0_6); (try delta Cert.KernelIdeal.body1.sl.v0_7)
      try simp only [View.readCov, ld80, ldL, ldb, ldwl, ldbl, ldw, ldblk _ _ i (k1_off1_eq i), ldblk _ _ i (k1_off2_eq i),
          ldblk _ _ i (k1_off3_eq i), st80, stblk _ _ i (k1_off1_eq i), stblk _ _ i (k1_off2_eq i), stblk _ _ i (k1_off3_eq i),
          View.writes_nil, blk_putBlk, hf0, hf1, hf2, hf3, hf4, hf5, hf6, hf7, hf8, hf9, hf10, hf11]
    · iexists _; isplitr; swap
      · iexact H11
      ipureintro
      simp only [emit, step, advance, opening]
      first | simp only [if_pos hc0] | simp only [if_neg hc0] | skip
      first | simp only [if_pos hc1] | simp only [if_neg hc1] | skip
      first | simp only [if_pos hc2] | simp only [if_neg hc2] | skip
      first | simp only [if_pos hc3] | simp only [if_neg hc3] | skip
      first | simp only [if_pos hc4] | simp only [if_neg hc4] | skip
      first | simp only [if_pos hc5] | simp only [if_neg hc5] | skip
      first | simp only [if_pos hc6] | simp only [if_neg hc6] | skip
      (try delta Cert.KernelIdeal.body1.sl.v42); (try delta Cert.KernelIdeal.body1.sl.v42_1)
      (try delta Cert.KernelIdeal.body1.sl.H8_1); (try delta Cert.KernelIdeal.body1.sl.H8_1_1); (try delta Cert.KernelIdeal.body1.sl.H8_1_2)
      (try delta Cert.KernelIdeal.body1.sl.r); (try delta Cert.KernelIdeal.body1.sl.r_1); (try delta Cert.KernelIdeal.body1.sl.r_2); (try delta Cert.KernelIdeal.body1.sl.r_3); (try delta Cert.KernelIdeal.body1.sl.r_4); (try delta Cert.KernelIdeal.body1.sl.r_5); (try delta Cert.KernelIdeal.body1.sl.r_6); (try delta Cert.KernelIdeal.body1.sl.r_7)
      (try delta Cert.KernelIdeal.body1.sl.v44); (try delta Cert.KernelIdeal.body1.sl.v44_1); (try delta Cert.KernelIdeal.body1.sl.v44_2); (try delta Cert.KernelIdeal.body1.sl.v44_3); (try delta Cert.KernelIdeal.body1.sl.v44_4); (try delta Cert.KernelIdeal.body1.sl.v44_5); (try delta Cert.KernelIdeal.body1.sl.v44_6)
      (try delta Cert.KernelIdeal.body1.sl.H8_1)
      (try delta Cert.KernelIdeal.body1.sl.H11_1)
      (try delta Cert.KernelIdeal.body1.sl.v45); (try delta Cert.KernelIdeal.body1.sl.v45_1); (try delta Cert.KernelIdeal.body1.sl.v45_2)
      (try delta Cert.KernelIdeal.body1.sl.v25); (try delta Cert.KernelIdeal.body1.sl.v25_1); (try delta Cert.KernelIdeal.body1.sl.v25_2); (try delta Cert.KernelIdeal.body1.sl.v25_3); (try delta Cert.KernelIdeal.body1.sl.v25_4)
      (try delta Cert.KernelIdeal.body1.sl.H10_1); (try delta Cert.KernelIdeal.body1.sl.H10_1_1); (try delta Cert.KernelIdeal.body1.sl.H10_1_2); (try delta Cert.KernelIdeal.body1.sl.H10_1_3); (try delta Cert.KernelIdeal.body1.sl.H10_1_4)
      (try delta Cert.KernelIdeal.body1.sl.v1); (try delta Cert.KernelIdeal.body1.sl.v1_1); (try delta Cert.KernelIdeal.body1.sl.v1_2); (try delta Cert.KernelIdeal.body1.sl.v1_3); (try delta Cert.KernelIdeal.body1.sl.v1_4); (try delta Cert.KernelIdeal.body1.sl.v1_5); (try delta Cert.KernelIdeal.body1.sl.v1_6); (try delta Cert.KernelIdeal.body1.sl.v1_7)
      (try delta Cert.KernelIdeal.body1.sl.v0); (try delta Cert.KernelIdeal.body1.sl.v0_1); (try delta Cert.KernelIdeal.body1.sl.v0_2); (try delta Cert.KernelIdeal.body1.sl.v0_3); (try delta Cert.KernelIdeal.body1.sl.v0_4); (try delta Cert.KernelIdeal.body1.sl.v0_5); (try delta Cert.KernelIdeal.body1.sl.v0_6); (try delta Cert.KernelIdeal.body1.sl.v0_7)
      try simp only [View.readCov, ld80, ldL, ldb, ldwl, ldbl, ldw, ldblk _ _ i (k1_off1_eq i), ldblk _ _ i (k1_off2_eq i),
          ldblk _ _ i (k1_off3_eq i), st80, stblk _ _ i (k1_off1_eq i), stblk _ _ i (k1_off2_eq i), stblk _ _ i (k1_off3_eq i),
          View.writes_nil, blk_putBlk, hf0, hf1, hf2, hf3, hf4, hf5, hf6, hf7, hf8, hf9, hf10, hf11]

end Cert.KernelIdeal

end
-- ==== Proof.KernelIdeal.Data.lean ====
/- What the three regions' bodies find and leave: the proof data of each region, for any contents of its arrays at
   entry, and the body obligations. -/
module

public import proofs.«01_k».proof.Proof.KernelIdeal.Body02
public import proofs.«01_k».proof.Proof.KernelIdeal.Body1
public import proofs.«01_k».proof.Proof.Region
public import proofs.«01_k».proof.Proof.Gen.KernelIdeal.Regions

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat arrRef)
open Cert.KernelIdeal.Gen Cert.Region

variable {F : FTy → Type} [FloatOps F]

local notation "𝕄" => MT nD τ sig Unit (Elt F) ℕ (UR sig nD τ) ℕ

variable (V : Dev nD → Valuation τ sig (Elt F)) (c : Dev nD)

/-! ## The first region -/

/-- A point's block of a window of the first region. -/
abbrev blk0 (w : Fin 4) (t : Fin cfg0.N) : (cfg0.win w).block.Idx → Elt F (cfg0.win w).elt :=
  block cfg0 c w (V c (Proc.devRef .tc (arrRef spec0 w))) t

/-- What the first region's body leaves, of what it finds. -/
def out0 : (w : Fin 4) → Fin cfg0.N → ((cfg0.win w).block.Idx → Elt F (cfg0.win w).elt) → (cfg0.win w).block.Idx → Elt F (cfg0.win w).elt
  | ⟨0, _⟩ => fun _ Y => Y
  | ⟨1, _⟩ => fun _ Y => Y
  | ⟨2, _⟩ => fun t _ => k0_pay1 (F := F) (blk0 V c 0 t)
  | ⟨3, _⟩ => fun t _ => k0_pay2 (F := F) (blk0 V c 0 t) (blk0 V c 1 t)
  | ⟨_ + 4, h⟩ => absurd h (by omega)

/-- The first region's proof data. -/
def rd0 : RDat τ (Elt F) Unit ℕ (UR sig nD τ) ℕ cfg0 c where
  A w := V c (Proc.devRef .tc (arrRef spec0 w))
  after w t Y X := X = out0 V c w t Y
  Φ _ := Pipeline.scopedRest spec0 c
  q _ := fullShare
  owed _ := 0

theorem body_obligation0 : (rd0 V c).BodyObligation (defs₀ (F := F)) Variants.none () Set.univ := by
  intro t Y hY
  have h0 : Y 0 = blk0 V c 0 t := finds_in (rd0 V c) 0 rfl (by decide) (fun _ _ _ h => h) t _ (hY 0)
  have h1 : Y 1 = blk0 V c 1 t := finds_in (rd0 V c) 1 rfl (by decide) (fun _ _ _ h => h) t _ (hY 1)
  rw [bigSep_W0, bigSep_W0, show (rd0 V c).Φ t.castSucc = Pipeline.scopedRest spec0 c from rfl,
    show (rd0 V c).Φ t.succ = Pipeline.scopedRest spec0 c from rfl]
  dsimp only
  iintro ⟨HΦ, HO, H0, H1, H2, H3⟩
  iapply (body0 Variants.none c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) (Y 0) (Y 1) (Y 2) (Y 3))
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists _; isplitr; swap
    · iexact H0
    ipureintro; exact rfl
  isplitl [H1]
  · iexists _; isplitr; swap
    · iexact H1
    ipureintro; exact rfl
  isplitl [H2]
  · iexists _; isplitr; swap
    · iexact H2
    ipureintro; exact congrArg (k0_pay1 (F := F)) h0
  · iexists _; isplitr; swap
    · iexact H3
    ipureintro; exact congrArg₂ (k0_pay2 (F := F)) h0 h1

/-! ## The last region -/

/-- A window's block of the last region. -/
abbrev blk2 (w : Fin 4) (t : Fin cfg2.N) : (cfg2.win w).block.Idx → Elt F (cfg2.win w).elt :=
  block cfg2 c w (V c (Proc.devRef .tc (arrRef spec2 w))) t

/-- What the last region's body leaves, of what it finds. -/
def out2 : (w : Fin 4) → Fin cfg2.N → ((cfg2.win w).block.Idx → Elt F (cfg2.win w).elt) → (cfg2.win w).block.Idx → Elt F (cfg2.win w).elt
  | ⟨0, _⟩ => fun _ Y => Y
  | ⟨1, _⟩ => fun _ Y => Y
  | ⟨2, _⟩ => fun _ Y => Y
  | ⟨3, _⟩ => fun t _ => k2_pay1 (F := F) (blk2 V c 0 t) (blk2 V c 1 t) (blk2 V c 2 t)
  | ⟨_ + 4, h⟩ => absurd h (by omega)

/-- The last region's proof data. -/
def rd2 : RDat τ (Elt F) Unit ℕ (UR sig nD τ) ℕ cfg2 c where
  A w := V c (Proc.devRef .tc (arrRef spec2 w))
  after w t Y X := X = out2 V c w t Y
  Φ _ := Pipeline.scopedRest spec2 c
  q _ := fullShare
  owed _ := 0

theorem body_obligation2 : (rd2 V c).BodyObligation (defs₀ (F := F)) Variants.none () Set.univ := by
  intro t Y hY
  have h0 : Y 0 = blk2 V c 0 t := finds_in (rd2 V c) 0 rfl (by decide) (fun _ _ _ h => h) t _ (hY 0)
  have h1 : Y 1 = blk2 V c 1 t := finds_in (rd2 V c) 1 rfl (by decide) (fun _ _ _ h => h) t _ (hY 1)
  have h2 : Y 2 = blk2 V c 2 t := finds_in (rd2 V c) 2 rfl (by decide) (fun _ _ _ h => h) t _ (hY 2)
  rw [bigSep_W2, bigSep_W2, show (rd2 V c).Φ t.castSucc = Pipeline.scopedRest spec2 c from rfl,
    show (rd2 V c).Φ t.succ = Pipeline.scopedRest spec2 c from rfl]
  dsimp only
  iintro ⟨HΦ, HO, H0, H1, H2, H3⟩
  iapply (body2 Variants.none c _ (hstage2_0 0) _ (hstage2_1 0) _ (hstage2_2 0) _ (hstage2_3 0) (Y 0) (Y 1) (Y 2) (Y 3))
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists _; isplitr; swap
    · iexact H0
    ipureintro; exact rfl
  isplitl [H1]
  · iexists _; isplitr; swap
    · iexact H1
    ipureintro; exact rfl
  isplitl [H2]
  · iexists _; isplitr; swap
    · iexact H2
    ipureintro; exact rfl
  · iexists _; isplitr; swap
    · iexact H3
    ipureintro
    show k2_pay1 (F := F) (Y 0) (Y 1) (Y 2) = k2_pay1 (F := F) (blk2 V c 0 t) (blk2 V c 1 t) (blk2 V c 2 t)
    rw [h0, h1, h2]

/-! ## The recurrence's region -/

/-- A point's block of a window of the recurrence. -/
abbrev blk1 (w : Fin 8) (t : Fin cfg1.N) : (cfg1.win w).block.Idx → Elt F (cfg1.win w).elt :=
  block cfg1 c w (V c (Proc.devRef .tc (arrRef spec1 w))) t

/-- The blocks a point of the recurrence reads. -/
def ins (t : Fin cfg1.N) : Ins F :=
  ⟨blk1 V c 0 t, blk1 V c 1 t, blk1 V c 2 t, blk1 V c 3 t, blk1 V c 4 t, blk1 V c 5 t, blk1 V c 6 t⟩

/-- Some contents, whichever. -/
def whichever (s : Shape) (e : EltTy) : Vec F s e := fun _ => Classical.arbitrary _

/-- The scratch buffers before a point, their first contents being of no account. -/
def st : ℕ → Scr F
  | 0 => ⟨whichever _ _, whichever _ _, whichever _ _, whichever _ _⟩
  | n + 1 => if h : n < cfg1.N then step (grid1.coords ⟨n, h⟩) (ins V c ⟨n, h⟩) (st n) else st n

theorem st_succ (t : Fin cfg1.N) : st V c (t.val + 1) = step (grid1.coords t) (ins V c t) (st V c t.val) := by
  rw [st, dif_pos t.isLt]

/-- What the recurrence's body leaves, of what it finds. -/
def out1 : (w : Fin 8) → Fin cfg1.N → ((cfg1.win w).block.Idx → Elt F (cfg1.win w).elt) → (cfg1.win w).block.Idx → Elt F (cfg1.win w).elt
  | ⟨0, _⟩ => fun _ Y => Y
  | ⟨1, _⟩ => fun _ Y => Y
  | ⟨2, _⟩ => fun _ Y => Y
  | ⟨3, _⟩ => fun _ Y => Y
  | ⟨4, _⟩ => fun _ Y => Y
  | ⟨5, _⟩ => fun _ Y => Y
  | ⟨6, _⟩ => fun _ Y => Y
  | ⟨7, _⟩ => fun t Y => emit (grid1.coords t) (ins V c t) (st V c t.val) Y
  | ⟨_ + 8, h⟩ => absurd h (by omega)

/-- The four scratch buffers at given contents. -/
def scratch (s : Scr F) : sProp 𝕄 :=
  iprop(owns (c : Thread nD τ) (Memref.whole cc1_scratch0) fullShare s.P0 ∗ owns (c : Thread nD τ) (Memref.whole cc1_scratch1) fullShare s.P1
    ∗ owns (c : Thread nD τ) (Memref.whole cc1_scratch2) fullShare s.T ∗ owns (c : Thread nD τ) (Memref.whole cc1_scratch3) fullShare s.A)

/-- The scoped buffers that the recurrence does not touch. -/
def rest1 : sProp 𝕄 :=
  bigSepL [cc0_stg0_0, cc0_stg0_1, cc0_stg1_0, cc0_stg2_0, cc0_stg2_1, cc0_stg3_0, cc0_stg3_1, cc2_stg0_0, cc2_stg1_0, cc2_stg2_0, cc2_stg3_0]
    fun b => iprop(∃ f : Buf (Elt F) ((c.tc : Thread nD τ).loc b), ((c.tc : Thread nD τ).loc b) ↦{fullShare} f)

/-- The recurrence's proof data. -/
def rd1 : RDat τ (Elt F) Unit ℕ (UR sig nD τ) ℕ cfg1 c where
  A w := V c (Proc.devRef .tc (arrRef spec1 w))
  after w t Y X := X = out1 V c w t Y
  Φ n := iprop(∃ s : Scr F, ⌜n.val ≠ 0 → s = st V c n.val⌝ ∗ scratch c s ∗ rest1 c)
  q _ := fullShare
  owed _ := 0

/-- Only the first point opens with the first step's opening. -/
theorem first_zero : ∀ t : Fin cfg1.N, t.val = 0 → first (grid1.coords t) := by decide +kernel

theorem step_of_first (i : grid1.Coords) (h : first i) (x : Ins F) (s s' : Scr F) : step i x s = step i x s' := by
  simp only [step, opening, if_pos h]

theorem emit_of_first (i : grid1.Coords) (h : first i) (x : Ins F) (s s' : Scr F) (o : Vec F S80x4096 .f32) : emit i x s o = emit i x s' o := by
  unfold emit; rw [step_of_first i h x s s']

theorem body_obligation1 : (rd1 V c).BodyObligation (defs₀ (F := F)) Variants.none () Set.univ := by
  intro t Y hY
  have h0 : Y 0 = blk1 V c 0 t := finds_in (rd1 V c) 0 rfl (by decide) (fun _ _ _ h => h) t _ (hY 0)
  have h1 : Y 1 = blk1 V c 1 t := finds_in (rd1 V c) 1 rfl (by decide) (fun _ _ _ h => h) t _ (hY 1)
  have h2 : Y 2 = blk1 V c 2 t := finds_in (rd1 V c) 2 rfl (by decide) (fun _ _ _ h => h) t _ (hY 2)
  have h3 : Y 3 = blk1 V c 3 t := finds_in (rd1 V c) 3 rfl (by decide) (fun _ _ _ h => h) t _ (hY 3)
  have h4 : Y 4 = blk1 V c 4 t := finds_in (rd1 V c) 4 rfl (by decide) (fun _ _ _ h => h) t _ (hY 4)
  have h5 : Y 5 = blk1 V c 5 t := finds_in (rd1 V c) 5 rfl (by decide) (fun _ _ _ h => h) t _ (hY 5)
  have h6 : Y 6 = blk1 V c 6 t := finds_in (rd1 V c) 6 rfl (by decide) (fun _ _ _ h => h) t _ (hY 6)
  have hx : (⟨Y 0, Y 1, Y 2, Y 3, Y 4, Y 5, Y 6⟩ : Ins F) = ins V c t := by
    unfold ins; rw [h0, h1, h2, h3, h4, h5, h6]
  rw [bigSep_W1, bigSep_W1,
    show (rd1 V c).Φ t.castSucc = iprop(∃ s : Scr F, ⌜t.val ≠ 0 → s = st V c t.val⌝ ∗ scratch c s ∗ rest1 c) from rfl,
    show (rd1 V c).Φ t.succ = iprop(∃ s : Scr F, ⌜t.val + 1 ≠ 0 → s = st V c (t.val + 1)⌝ ∗ scratch c s ∗ rest1 c) from rfl]
  dsimp only
  iintro ⟨⟨%s, %hs, HS, HR⟩, HO, H0, H1, H2, H3, H4, H5, H6, H7⟩
  unfold scratch
  icases HS with ⟨H8, H9, H10, H11⟩
  have hstep : step (grid1.coords t) (ins V c t) s = st V c (t.val + 1) := by
    rw [st_succ]
    by_cases h : t.val = 0
    · exact step_of_first _ (first_zero t h) _ _ _
    · rw [hs h]
  have hemit : ∀ o, emit (grid1.coords t) (ins V c t) s o = emit (grid1.coords t) (ins V c t) (st V c t.val) o := fun o => by
    by_cases h : t.val = 0
    · exact emit_of_first _ (first_zero t h) _ _ _ _
    · rw [hs h]
  iapply (body1 Variants.none c (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3))
    _ (hstage1_4 ((cfg1.slots t 4).cast nbuf1_4)) _ (hstage1_5 ((cfg1.slots t 5).cast nbuf1_5))
    _ (hstage1_6 ((cfg1.slots t 6).cast nbuf1_6)) _ (hstage1_7 ((cfg1.slots t 7).cast nbuf1_7))
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    ⟨Y 0, Y 1, Y 2, Y 3, Y 4, Y 5, Y 6⟩ (Y 7) s)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [hx]
  iintro ⟨H0, H1, H2, H3, H4, H5, H6, H7, H8, H9, H10, H11⟩
  isplitl [H8 H9 H10 H11 HR]
  · iexists (step (grid1.coords t) (ins V c t) s)
    isplitr
    · ipureintro; exact fun _ => hstep
    isplitr [HR]
    · isplitl [H8]; · iexact H8
      isplitl [H9]; · iexact H9
      isplitl [H10]; · iexact H10
      iexact H11
    iexact HR
  isplitl [HO]; · iexact HO
  isplitl [H0]
  · iexists _; isplitr; swap
    · iexact H0
    ipureintro; exact h0.symm
  isplitl [H1]
  · iexists _; isplitr; swap
    · iexact H1
    ipureintro; exact h1.symm
  isplitl [H2]
  · iexists _; isplitr; swap
    · iexact H2
    ipureintro; exact h2.symm
  isplitl [H3]
  · iexists _; isplitr; swap
    · iexact H3
    ipureintro; exact h3.symm
  isplitl [H4]
  · iexists _; isplitr; swap
    · iexact H4
    ipureintro; exact h4.symm
  isplitl [H5]
  · iexists _; isplitr; swap
    · iexact H5
    ipureintro; exact h5.symm
  isplitl [H6]
  · iexists _; isplitr; swap
    · iexact H6
    ipureintro; exact h6.symm
  · iexists _; isplitr; swap
    · iexact H7
    ipureintro; exact hemit _

/-- At entry the scratch buffers hold whatever they hold. -/
theorem in1 : (Pipeline.scopedRest spec1 c : sProp 𝕄) ⊢ (rd1 V c).Φ 0 := by
  rw [Pipeline.scopedRest_eq_of_list spec1 c [cc1_scratch0, cc1_scratch1, cc1_scratch2, cc1_scratch3, cc0_stg0_0, cc0_stg0_1, cc0_stg1_0, cc0_stg2_0, cc0_stg2_1, cc0_stg3_0, cc0_stg3_1, cc2_stg0_0, cc2_stg1_0, cc2_stg2_0, cc2_stg3_0] (by decide) (by decide)]
  show iprop((∃ f : Buf (Elt F) ((c.tc : Thread nD τ).loc cc1_scratch0), ((c.tc : Thread nD τ).loc cc1_scratch0) ↦{fullShare} f)
    ∗ (∃ f : Buf (Elt F) ((c.tc : Thread nD τ).loc cc1_scratch1), ((c.tc : Thread nD τ).loc cc1_scratch1) ↦{fullShare} f)
    ∗ (∃ f : Buf (Elt F) ((c.tc : Thread nD τ).loc cc1_scratch2), ((c.tc : Thread nD τ).loc cc1_scratch2) ↦{fullShare} f)
    ∗ (∃ f : Buf (Elt F) ((c.tc : Thread nD τ).loc cc1_scratch3), ((c.tc : Thread nD τ).loc cc1_scratch3) ↦{fullShare} f)
    ∗ rest1 c) ⊢ iprop(∃ s : Scr F, ⌜(0 : Fin (cfg1.N + 1)).val ≠ 0 → s = st V c (0 : Fin (cfg1.N + 1)).val⌝ ∗ scratch c s ∗ rest1 c)
  iintro ⟨⟨%f0, H0⟩, ⟨%f1, H1⟩, ⟨%f2, H2⟩, ⟨%f3, H3⟩, HR⟩
  iexists (⟨f0, f1, f2, f3⟩ : Scr F)
  isplitr
  · ipureintro; exact fun h => absurd rfl h
  isplitr [HR]
  · unfold scratch
    rw [owns_whole, owns_whole, owns_whole, owns_whole]
    isplitl [H0]; · iexact H0
    isplitl [H1]; · iexact H1
    isplitl [H2]; · iexact H2
    iexact H3
  iexact HR

/-- At exit their contents are forgotten. -/
theorem out_rest1 : (rd1 V c).Φ (Fin.last cfg1.N) ⊢ (Pipeline.scopedRest spec1 c : sProp 𝕄) := by
  rw [Pipeline.scopedRest_eq_of_list spec1 c [cc1_scratch0, cc1_scratch1, cc1_scratch2, cc1_scratch3, cc0_stg0_0, cc0_stg0_1, cc0_stg1_0, cc0_stg2_0, cc0_stg2_1, cc0_stg3_0, cc0_stg3_1, cc2_stg0_0, cc2_stg1_0, cc2_stg2_0, cc2_stg3_0] (by decide) (by decide)]
  show iprop(∃ s : Scr F, ⌜(Fin.last cfg1.N).val ≠ 0 → s = st V c (Fin.last cfg1.N).val⌝ ∗ scratch c s ∗ rest1 c)
    ⊢ iprop((∃ f : Buf (Elt F) ((c.tc : Thread nD τ).loc cc1_scratch0), ((c.tc : Thread nD τ).loc cc1_scratch0) ↦{fullShare} f)
    ∗ (∃ f : Buf (Elt F) ((c.tc : Thread nD τ).loc cc1_scratch1), ((c.tc : Thread nD τ).loc cc1_scratch1) ↦{fullShare} f)
    ∗ (∃ f : Buf (Elt F) ((c.tc : Thread nD τ).loc cc1_scratch2), ((c.tc : Thread nD τ).loc cc1_scratch2) ↦{fullShare} f)
    ∗ (∃ f : Buf (Elt F) ((c.tc : Thread nD τ).loc cc1_scratch3), ((c.tc : Thread nD τ).loc cc1_scratch3) ↦{fullShare} f)
    ∗ rest1 c)
  iintro ⟨%s, -, HS, HR⟩
  unfold scratch
  rw [owns_whole, owns_whole, owns_whole, owns_whole]
  icases HS with ⟨H0, H1, H2, H3⟩
  isplitl [H0]; · iexists _; iexact H0
  isplitl [H1]; · iexists _; iexact H1
  isplitl [H2]; · iexists _; iexact H2
  isplitl [H3]; · iexists _; iexact H3
  iexact HR

end Cert.KernelIdeal

end
-- ==== Proof.KernelIdeal.Run.lean ====
/- The run of the whole program: the contents of every unscoped buffer after each item, and that every execution ends
   with the last of them. -/
module

public import proofs.«01_k».proof.Proof.KernelIdeal.Data

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat arrRef HostSeg)
open Cert.KernelIdeal.Gen Cert.Region

variable {F : FTy → Type} [FloatOps F]

local notation "𝕄" => MT nD τ sig Unit (Elt F) ℕ (UR sig nD τ) ℕ

/-! ## What each region leaves in its outputs -/

section Outputs

variable (V : Dev nD → Valuation τ sig (Elt F)) (c : Dev nD)

/-- The first region's exact data. -/
def ed0 : Pipeline.Dat τ (Elt F) Unit ℕ (UR sig nD τ) ℕ cfg0 c :=
  (rd0 V c).withAfter fun w t => out0 V c w t fun _ => Classical.arbitrary _

/-- The last region's exact data. -/
def ed2 : Pipeline.Dat τ (Elt F) Unit ℕ (UR sig nD τ) ℕ cfg2 c :=
  (rd2 V c).withAfter fun w t => out2 V c w t fun _ => Classical.arbitrary _

/-- The last point but one of the recurrence. -/
abbrev t20 : Fin cfg1.N := ⟨20, by decide⟩
/-- The last point of the recurrence. -/
abbrev t21 : Fin cfg1.N := ⟨21, by decide⟩

/-- The recurrence's result: its two halves, written by the last two points. -/
def final1 : Vec F S80x4096 .f32 :=
  emit (grid1.coords t21) (ins V c t21) (st V c 21) (emit (grid1.coords t20) (ins V c t20) (st V c 20) (whichever _ _))

/-- What the recurrence leaves in its windows' buffers at the points that write back. -/
def aft1 : (w : Fin 8) → Fin cfg1.N → (cfg1.win w).block.Idx → Elt F (cfg1.win w).elt
  | ⟨7, _⟩ => fun _ => final1 V c
  | w => fun t => fun _ => Classical.arbitrary _

/-- The recurrence's exact data. -/
def ed1 : Pipeline.Dat τ (Elt F) Unit ℕ (UR sig nD τ) ℕ cfg1 c := (rd1 V c).withAfter (aft1 V c)

theorem arr0_2 (G) (hG : (rd0 V c).ArrAt 2 cfg0.N G) : G = (ed0 V c).arrAt 2 cfg0.N :=
  arrAt_unique (rd0 V c) (fun w t => out0 V c w t fun _ => Classical.arbitrary _) 2 (fun u X _ ⟨Y, _, h⟩ => h) G hG

theorem arr0_3 (G) (hG : (rd0 V c).ArrAt 3 cfg0.N G) : G = (ed0 V c).arrAt 3 cfg0.N :=
  arrAt_unique (rd0 V c) (fun w t => out0 V c w t fun _ => Classical.arbitrary _) 3 (fun u X _ ⟨Y, _, h⟩ => h) G hG

theorem arr2_3 (G) (hG : (rd2 V c).ArrAt 3 cfg2.N G) : G = (ed2 V c).arrAt 3 cfg2.N :=
  arrAt_unique (rd2 V c) (fun w t => out2 V c w t fun _ => Classical.arbitrary _) 3 (fun u X _ ⟨Y, _, h⟩ => h) G hG

/-- Two blocks of columns side by side cover a buffer of 4096 columns. -/
theorem putBlk_cover (i j : grid1.Coords) (hi : (i 1).val = 0) (hj : (j 1).val = 1) (v v' : Vec F S80x4096 .f32)
    (a b : Vec F S80x2048 .f32) : putBlk j (putBlk i v a) b = putBlk j (putBlk i v' a) b := by
  funext y
  simp only [putBlk, VecWindow.put]
  by_cases h : ∀ a, col j a ≤ (y a).val ∧ (y a).val < col j a + S80x2048.size a
  · rw [dif_pos h, dif_pos h]
  rw [dif_neg h, dif_neg h]
  have h' : ∀ a, col i a ≤ (y a).val ∧ (y a).val < col i a + S80x2048.size a := by
    have y0 : (y 0).val < 80 := (y 0).isLt
    have y1 : (y 1).val < 4096 := (y 1).isLt
    by_contra hn
    have e0 : ∀ k : grid1.Coords, col k 0 = 0 := fun _ => rfl
    have e1 : ∀ k : grid1.Coords, col k 1 = 2048 * (k 1).val := fun _ => rfl
    have s0 : S80x2048.size 0 = 80 := rfl
    have s1 : S80x2048.size 1 = 2048 := rfl
    rw [Fin.forall_fin_two, e0, e1, s0, s1, hi] at hn
    rw [Fin.forall_fin_two, e0, e1, s0, s1, hj] at h
    omega
  rw [dif_pos h', dif_pos h']

theorem c20 : (grid1.coords t20 1).val = 0 ∧ k1_cond7 (grid1.coords t20) = 1#1 := by decide +kernel
theorem c21 : (grid1.coords t21 1).val = 1 ∧ k1_cond7 (grid1.coords t21) = 1#1 := by decide +kernel

theorem arr1_7 (G) (hG : (rd1 V c).ArrAt 7 cfg1.N G) : G = (ed1 V c).arrAt 7 cfg1.N := by
  refine arrAt_unique (rd1 V c) _ 7 (fun u X hu hX => ?_) G hG
  have hu' : u.val % 22 = 21 := (flush1_7 u).mp hu
  have hlt : u.val < 22 := lt_of_lt_of_eq u.isLt N_1
  obtain rfl : u = t21 := Fin.ext (by show u.val = 21; omega)
  obtain ⟨Y, hY, hX⟩ := hX
  have hf : (cfg1.win 7).fetch t21 = false := by decide +kernel
  rcases ((rd1 V c).finds_of_pos hf (by decide) Y).mp hY with h | ⟨Y', _, h⟩
  · exact absurd ((flush1_7 _).mp h) (by decide)
  · subst hX
    have h : Y = emit (grid1.coords t20) (ins V c t20) (st V c 20) Y' := h
    show emit (grid1.coords t21) (ins V c t21) (st V c 21) Y = final1 V c
    rw [h]; unfold final1 emit
    rw [if_pos c21.2, if_pos c20.2, if_pos c21.2]
    exact putBlk_cover _ _ c20.1 c21.1 _ _ _ _

/-- The buffers after the first region. -/
def upd0 : Valuation τ sig (Elt F) :=
  Function.update (Function.update (V c) main_call0_v137_0 ((ed0 V c).arrAt 2 cfg0.N)) main_call0_v137_1 ((ed0 V c).arrAt 3 cfg0.N)
/-- The buffers after the recurrence. -/
def upd1 : Valuation τ sig (Elt F) := Function.update (V c) main_call0_v140 ((ed1 V c).arrAt 7 cfg1.N)
/-- The buffers after the last region. -/
def upd2 : Valuation τ sig (Elt F) := Function.update (V c) main_v0 ((ed2 V c).arrAt 3 cfg2.N)

theorem mem_arrRefs {gr W : ℕ} (win : Fin W → Pipeline.WinSpec sig gr) (w : Fin W) :
    (Proc.devRef .tc (arrRef win w) : DevRef τ sig) ∈ Pipeline.arrRefs (τ := τ) win :=
  Finset.mem_map.mpr ⟨arrRef win w, Finset.mem_image_of_mem _ (Finset.mem_univ w), rfl⟩

theorem ne_of_not_mem {gr W : ℕ} (win : Fin W → Pipeline.WinSpec sig gr) (w : Fin W) (b : DevRef τ sig) (hb : b ∉ Pipeline.arrRefs (τ := τ) win) :
    b ≠ Proc.devRef .tc (arrRef win w) := fun h => hb (h ▸ mem_arrRefs win w)

theorem off0 (b : DevRef τ sig) (hb : b ∉ Pipeline.arrRefs (τ := τ) spec0) : V c b = upd0 V c b := by
  unfold upd0
  rw [Function.update_of_ne (ne_of_not_mem spec0 3 b hb), Function.update_of_ne (ne_of_not_mem spec0 2 b hb)]

theorem off1 (b : DevRef τ sig) (hb : b ∉ Pipeline.arrRefs (τ := τ) spec1) : V c b = upd1 V c b := by
  unfold upd1
  rw [Function.update_of_ne (ne_of_not_mem spec1 7 b hb)]

theorem off2 (b : DevRef τ sig) (hb : b ∉ Pipeline.arrRefs (τ := τ) spec2) : V c b = upd2 V c b := by
  unfold upd2
  rw [Function.update_of_ne (ne_of_not_mem spec2 3 b hb)]

theorem ins_of_ne0 : ∀ w : Fin 4, w ≠ 2 → w ≠ 3 →
    (cfg0.win w).isOut = false ∧ arrRef spec0 w ≠ main_call0_v137_0 ∧ arrRef spec0 w ≠ main_call0_v137_1 := by decide

theorem arrays0 (w : Fin 4) (G) (hG : (rd0 V c).ArrAt w cfg0.N G) : G = upd0 V c (Proc.devRef .tc (arrRef spec0 w)) := by
  by_cases h2 : w = 2
  · subst h2
    have h : (Proc.devRef .tc main_call0_v137_0 : DevRef τ sig) ≠ Proc.devRef .tc main_call0_v137_1 := StableHlo.devRef_ne_of_ne (by decide)
    refine (arr0_2 V c G hG).trans ?_
    show _ = upd0 V c (Proc.devRef .tc main_call0_v137_0)
    unfold upd0; rw [Function.update_of_ne h, Function.update_self]
  by_cases h3 : w = 3
  · subst h3
    refine (arr0_3 V c G hG).trans ?_
    show _ = upd0 V c (Proc.devRef .tc main_call0_v137_1)
    unfold upd0; rw [Function.update_self]
  · have hw := ins_of_ne0 w h2 h3
    rw [RDat.ArrAt_in (rd0 V c) w hw.1] at hG
    unfold upd0
    rw [Function.update_of_ne (StableHlo.devRef_ne_of_ne hw.2.2), Function.update_of_ne (StableHlo.devRef_ne_of_ne hw.2.1)]; exact hG

theorem ins_of_ne1 : ∀ w : Fin 8, w ≠ 7 → (cfg1.win w).isOut = false ∧ arrRef spec1 w ≠ main_call0_v140 := by decide
theorem ins_of_ne2 : ∀ w : Fin 4, w ≠ 3 → (cfg2.win w).isOut = false ∧ arrRef spec2 w ≠ main_v0 := by decide

theorem arrays1 (w : Fin 8) (G) (hG : (rd1 V c).ArrAt w cfg1.N G) : G = upd1 V c (Proc.devRef .tc (arrRef spec1 w)) := by
  by_cases h : w = 7
  · subst h
    refine (arr1_7 V c G hG).trans ?_
    show _ = upd1 V c (Proc.devRef .tc main_call0_v140)
    unfold upd1; rw [Function.update_self]
  · rw [RDat.ArrAt_in (rd1 V c) w (ins_of_ne1 w h).1] at hG
    unfold upd1; rw [Function.update_of_ne (StableHlo.devRef_ne_of_ne (ins_of_ne1 w h).2)]; exact hG

theorem arrays2 (w : Fin 4) (G) (hG : (rd2 V c).ArrAt w cfg2.N G) : G = upd2 V c (Proc.devRef .tc (arrRef spec2 w)) := by
  by_cases h : w = 3
  · subst h
    refine (arr2_3 V c G hG).trans ?_
    show _ = upd2 V c (Proc.devRef .tc main_v0)
    unfold upd2; rw [Function.update_self]
  · rw [RDat.ArrAt_in (rd2 V c) w (ins_of_ne2 w h).1] at hG
    unfold upd2; rw [Function.update_of_ne (StableHlo.devRef_ne_of_ne (ins_of_ne2 w h).2)]; exact hG

theorem in0 : (Pipeline.scopedRest spec0 c : sProp 𝕄) ⊢ (rd0 V c).Φ 0 := .rfl
theorem out_rest0 : (rd0 V c).Φ (Fin.last cfg0.N) ⊢ (Pipeline.scopedRest spec0 c : sProp 𝕄) := .rfl
theorem in2 : (Pipeline.scopedRest spec2 c : sProp 𝕄) ⊢ (rd2 V c).Φ 0 := .rfl
theorem out_rest2 : (rd2 V c).Φ (Fin.last cfg2.N) ⊢ (Pipeline.scopedRest spec2 c : sProp 𝕄) := .rfl

end Outputs

/-! ## The contents of the buffers after each item -/

section Contents

variable (m : (ℓ : Loc nD τ sig) → Buf (Elt F) ℓ) (c : Dev nD)

/-- After the first region. -/
def X2 : Valuation τ sig (Elt F) := upd0 (V1 m) c
/-- After the host operations that follow. -/
def X3 : Valuation τ sig (Elt F) := StableHlo.after hostOps1 (X2 m c)
/-- After the recurrence. -/
def X4 : Valuation τ sig (Elt F) := upd1 (X3 m) c
/-- After the host operations that follow. -/
def X5 : Valuation τ sig (Elt F) := StableHlo.after hostOps2 (X4 m c)
/-- After the last region. -/
def X6 : Valuation τ sig (Elt F) := upd2 (X5 m) c

/-- What each region leaves, buffer by buffer. -/
def outs : Outs (F := F) := fun J r c => match J with
  | 2 => X2 m c r
  | 4 => X4 m c r
  | _ => X6 m c r

theorem V2_eq : V2 m (outs m) c = X2 m c := by
  have h : (Proc.devRef .tc main_call0_v137_0 : DevRef τ sig) ≠ Proc.devRef .tc main_call0_v137_1 := StableHlo.devRef_ne_of_ne (by decide)
  show Function.update (Function.update (V1 m c) main_call0_v137_0 (X2 m c main_call0_v137_0)) main_call0_v137_1 (X2 m c main_call0_v137_1) = X2 m c
  simp only [X2, upd0, Function.update_self, Function.update_of_ne h]

theorem V4_eq : V4 m (outs m) c = X4 m c := by
  show Function.update (StableHlo.after hostOps1 (V2 m (outs m) c)) main_call0_v140 (X4 m c main_call0_v140) = X4 m c
  rw [V2_eq]
  simp only [X4, upd1, X3, Function.update_self]

theorem V6_eq : V6 m (outs m) c = X6 m c := by
  show Function.update (StableHlo.after hostOps2 (V4 m (outs m) c)) main_v0 (X6 m c main_v0) = X6 m c
  rw [V4_eq]
  simp only [X6, upd2, X5, Function.update_self]

end Contents

/-! ## The segments -/

section Segments

variable (m : (ℓ : Loc nD τ sig) → Buf (Elt F) ℓ) (Va Vb Vc : Dev nD → Valuation τ sig (Elt F))

/-- The proof data of the three regions. -/
def rds : (p : Fin 3) → (c : Dev nD) → RDat τ (Elt F) Unit ℕ (UR sig nD τ) ℕ (Pipeline.pin (pcfgs (F := F)) adm p) c
  | ⟨0, _⟩, c => rd0 Va c
  | ⟨1, _⟩, c => rd1 Vb c
  | ⟨2, _⟩, c => rd2 Vc c
  | ⟨_ + 3, h⟩, _ => absurd h (by omega)

/-- No thread has to promise anything to another. -/
abbrev noL : GSem nD τ sig → Finset Unit := fun _ => ∅
/-- Every promise is on one level. -/
abbrev lv0 : GSem nD τ sig → Unit → ℕ := fun _ _ => 0

/-- The rest of a thread's state: nothing owed. -/
abbrev idleE (c : Dev nD) : sProp 𝕄 := iprop(∃ Wd, owes (c : Thread nD τ) (0 : CellTallies nD τ sig Unit) Wd)

/-- The host operations before the first region. -/
def host0 : HostSeg (Ix := Unit) (Name := ℕ) (U := UR sig nD τ) (Lvl := ℕ) (pcfgs (F := F)) defs₀ Variants.none noL lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) idleE
/-- The host operations between the first region and the recurrence. -/
def host1 : HostSeg (Ix := Unit) (Name := ℕ) (U := UR sig nD τ) (Lvl := ℕ) (pcfgs (F := F)) defs₀ Variants.none noL lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (X2 m) idleE
/-- The host operations between the recurrence and the last region. -/
def host2 : HostSeg (Ix := Unit) (Name := ℕ) (U := UR sig nD τ) (Lvl := ℕ) (pcfgs (F := F)) defs₀ Variants.none noL lv0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (X4 m) idleE

/-- The first region. -/
def region0 : RDat.RegionSeg (pcfgs (F := F)) adm (rds Va Vb Vc) () defs₀ Variants.none noL lv0 0 :=
  Region.seg (pcfgs (F := F)) adm (rds Va Vb Vc) () defs₀ Variants.none noL lv0 0 launch0.toP rfl (fun c => body_obligation0 Va c)
    (fun _ _ => rfl) (fun _ => rfl) (fun c w => (rd0 Va c).share_full (fun _ => rfl) w) (in0 Va) (out_rest0 Va)
    Va (upd0 Va) (fun _ _ => rfl) (arrays0 Va) (off0 Va)

/-- The recurrence. -/
def region1 : RDat.RegionSeg (pcfgs (F := F)) adm (rds Va Vb Vc) () defs₀ Variants.none noL lv0 1 :=
  Region.seg (pcfgs (F := F)) adm (rds Va Vb Vc) () defs₀ Variants.none noL lv0 1 launch1.toP rfl (fun c => body_obligation1 Vb c)
    (fun _ _ => rfl) (fun _ => rfl) (fun c w => (rd1 Vb c).share_full (fun _ => rfl) w) (in1 Vb) (out_rest1 Vb)
    Vb (upd1 Vb) (fun _ _ => rfl) (arrays1 Vb) (off1 Vb)

/-- The last region. -/
def region2 : RDat.RegionSeg (pcfgs (F := F)) adm (rds Va Vb Vc) () defs₀ Variants.none noL lv0 2 :=
  Region.seg (pcfgs (F := F)) adm (rds Va Vb Vc) () defs₀ Variants.none noL lv0 2 launch2.toP rfl (fun c => body_obligation2 Vc c)
    (fun _ _ => rfl) (fun _ => rfl) (fun c w => (rd2 Vc c).share_full (fun _ => rfl) w) (in2 Vc) (out_rest2 Vc)
    Vc (upd2 Vc) (fun _ _ => rfl) (arrays2 Vc) (off2 Vc)

/-- The items of the program in order. -/
abbrev items : List (RDat.Seg (pcfgs (F := F)) adm (rds (V1 m) (X3 m) (X5 m)) () defs₀ Variants.none noL lv0) :=
  [.host (host0 m), .region (region0 (V1 m) (X3 m) (X5 m)), .host (host1 m), .region (region1 (V1 m) (X3 m) (X5 m)), .host (host2 m), .region (region2 (V1 m) (X3 m) (X5 m))]

end Segments

/-! ## The run -/

set_option backward.isDefEq.respectTransparency.types false in
/-- Every execution ends with every unscoped buffer at its last contents and every semaphore at zero. -/
theorem run (m : (ℓ : Loc nD τ sig) → Buf (Elt F) ℓ) (g : Dev nD → PrngReg) :
    θ_run defs (onTc (τ := τ) (main (F := F))) ⟨m, fun _ => 0, g⟩ (fun r =>
      (∀ c : Dev nD, ∀ b ∈ Pipeline.ucRefs τ sig, r.2.mem (((c : Thread nD τ).1, b) : Loc nD τ sig) = X6 m c b) ∧ r.2.sem = fun _ => 0) := by
  refine RDat.θ_run_regions_kit_dev_sems (pcfgs (F := F)) adm (rds (V1 m) (X3 m) (X5 m)) () cellOf_inj (emb₁ : Emb _ 𝕄) defs₀ Variants.none noL lv0 m g main
    (fun _ => items m)
    (fun c Q => by
      rewrite [main_chain c, RDat.Seg.run_eq_chain,
        show (items m).map RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      dsimp (config := { failIfUnchanged := false }) only
      exact .rfl)
    (fun c => by simp only [items, RDat.Seg.pipes_host, RDat.Seg.pipes_region, RDat.Seg.pipes_nil]; decide)
    (fun _ => 0) (fun _ _ => rfl) (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := thread (V0 m)) (Tₙ := fun c => StableHlo.held (c : Thread nD τ) (Pipeline.ucRefs τ sig) (X6 m c))
    (hch := fun c => ⟨.rfl, .rfl, .rfl, .rfl, .rfl, .rfl, .rfl⟩)
    (hinit := ?_) (QY := fun c s => ∀ b ∈ Pipeline.ucRefs τ sig, s.mem (((c : Thread nD τ).1, b) : Loc nD τ sig) = X6 m c b)
    (hfin := fun c s' => ?_) (hQ := fun _ h hz => ⟨h, funext fun g => hz g (.inr (regions_no_unscoped g.2))⟩)
  · have h : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (g c) ∗ emp)
        ⊢ (thread (V0 m) c : sProp 𝕄) := fun c => by
      unfold thread
      rw [← Pipeline.unscopedBufs_held (Ix := Unit) (Name := ℕ) (U := UR sig nD τ) (Lvl := ℕ) c (V0 m c)]
      iintro ⟨HU, -, HO, -⟩
      isplitl [HU]; · iexact HU
      iexists _; iexact HO
    iintro ⟨H, -⟩
    imodintro
    iapply (show _ ⊢ (bigSep Finset.univ (thread (V0 m)) : sProp 𝕄) from bigSep_mono fun c _ => h c)
    iexact H
  · unfold StableHlo.held
    iintro ⟨Hh, HSI⟩
    ihave Hr := (pointsTo_read_all (Pipeline.ucRefs τ sig) (fun b => ((c : Thread nD τ).1, b)) (X6 m c) s') $$ [Hh HSI]
    · isplitl [Hh] <;> iassumption
    icases Hr with ⟨%h, HSI⟩
    imodintro
    isplitr
    · ipureintro; exact h
    · iexact HSI

/-- An unscoped buffer of the core, read off the last contents. -/
theorem mem_end {m : (ℓ : Loc nD τ sig) → Buf (Elt F) ℓ} {c : Dev nD} {s : MemSt nD τ sig (Elt F)}
    (h : ∀ b ∈ Pipeline.ucRefs τ sig, s.mem (((c : Thread nD τ).1, b) : Loc nD τ sig) = X6 m c b) (b : Ref sig .tc) (hb : b.isScoped = false) :
    s.mem ((c.tc : Thread nD τ).loc b) = X6 m c b :=
  h (Proc.devRef .tc b) (Finset.mem_filter.mpr ⟨StableHlo.devRef_mem_tcRefs b, by simpa using hb⟩)

/-- The arguments end as they were. -/
theorem args_end {m : (ℓ : Loc nD τ sig) → Buf (Elt F) ℓ} {c : Dev nD} {s : MemSt nD τ sig (Elt F)}
    (h : ∀ b ∈ Pipeline.ucRefs τ sig, s.mem (((c : Thread nD τ).1, b) : Loc nD τ sig) = X6 m c b) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9) :=
  ⟨(mem_end h main_arg0 (by decide)).trans ((congrFun (V6_eq m c) _).symm.trans (V6_main_arg0 m (outs m) c)),
    (mem_end h main_arg1 (by decide)).trans ((congrFun (V6_eq m c) _).symm.trans (V6_main_arg1 m (outs m) c)),
    (mem_end h main_arg2 (by decide)).trans ((congrFun (V6_eq m c) _).symm.trans (V6_main_arg2 m (outs m) c)),
    (mem_end h main_arg3 (by decide)).trans ((congrFun (V6_eq m c) _).symm.trans (V6_main_arg3 m (outs m) c)),
    (mem_end h main_arg4 (by decide)).trans ((congrFun (V6_eq m c) _).symm.trans (V6_main_arg4 m (outs m) c)),
    (mem_end h main_arg5 (by decide)).trans ((congrFun (V6_eq m c) _).symm.trans (V6_main_arg5 m (outs m) c)),
    (mem_end h main_arg6 (by decide)).trans ((congrFun (V6_eq m c) _).symm.trans (V6_main_arg6 m (outs m) c)),
    (mem_end h main_arg7 (by decide)).trans ((congrFun (V6_eq m c) _).symm.trans (V6_main_arg7 m (outs m) c)),
    (mem_end h main_arg8 (by decide)).trans ((congrFun (V6_eq m c) _).symm.trans (V6_main_arg8 m (outs m) c)),
    (mem_end h main_arg9 (by decide)).trans ((congrFun (V6_eq m c) _).symm.trans (V6_main_arg9 m (outs m) c))⟩

/-- The frame: every execution ends with the arguments unchanged and every semaphore at zero. -/
theorem frame (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => args_end (h.1 c), h.2⟩) (run m g)

/-- The value: every execution ends with the result as the last contents have it, and the arguments unchanged. -/
theorem value (m : (ℓ : Loc nD τ sig) → Buf (Elt F) ℓ) (g : Dev nD → PrngReg) :
    θ_run defs (onTc (τ := τ) (main (F := F))) ⟨m, fun _ => 0, g⟩ (fun r => ∀ c : Dev nD,
      r.2.mem ((c.tc : Thread nD τ).loc main_v0) = X6 m c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨mem_end (h.1 c) main_v0 (by decide), args_end (h.1 c)⟩) (run m g)

end Cert.KernelIdeal

end
-- ==== Proof.Frames.lean ====
/- The frames: each program's run read at its arguments and its counters. -/
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Lib.Quiescent

@[expose] public section

noncomputable section

namespace Cert.Proof

open Idealize.ShloMosaic Idealize.SL.Sem

/-- The kernel's frame, at its machine arithmetic. -/
theorem frame_kernel : Cert.quiescent_Kernel := fun m g _ => Cert.Kernel.frame m g

/-- The idealized kernel's frame. -/
theorem frame_ideal : Cert.quiescent_KernelIdeal := fun m g _ => Cert.KernelIdeal.frame m g

/-- The reference's frame: it declares no counter, and its run leaves the arguments as they were. -/
theorem frame_reference : Cert.quiescent_ReferenceIdeal := fun m g _ =>
  (θ_run Cert.ReferenceIdeal.defs _ _).mono
    (fun r h => ⟨fun c => (h c).2, sem_eq_zero_of_no_sems rfl r.2⟩) (Cert.ReferenceIdeal.Value.run m g)

end Cert.Proof

end
-- ==== Proof.Math.lean ====
/- The mathematics of the network over the extended reals, twice: as the kernel lays it out, on 80 rows of (graph,
   feature) pairs with block-diagonal weights, and as the problem states it; and that the two agree where the graph's
   matrix is symmetric. -/
module

public import Idealize.ShloMosaic.PureOps.Ideal
public import Idealize.ShloMosaic.PureOps.Ideal.Laws

@[expose] public section

noncomputable section

namespace Cert.Math

open scoped BigOperators
open Idealize.ShloMosaic

/-- A matrix. -/
abbrev Mat (a b : ℕ) := Fin a → Fin b → EReal

/-- The literal two of the recurrence. -/
abbrev two : EReal := Ideal.ofBits .f32 0x40000000#32

/-! ## The kernel's layout -/

/-- A product with the graph's matrix. -/
def mulL (L : Mat 4096 4096) (T : Mat 80 4096) : Mat 80 4096 := fun r n => ∑ m, T r m * L m n

/-- The recurrence's next polynomial. -/
def next (L : Mat 4096 4096) (T P : Mat 80 4096) : Mat 80 4096 := fun r n => two * mulL L T r n - P r n

/-- The Chebyshev polynomials of a layer's input. -/
def cheb (L : Mat 4096 4096) (T : Mat 80 4096) : ℕ → Mat 80 4096
  | 0 => T
  | 1 => mulL L T
  | k + 2 => next L (cheb L T (k + 1)) (cheb L T k)

/-- A product with a weight matrix. -/
def wmul (w : Mat 80 80) (T : Mat 80 4096) : Mat 80 4096 := fun r n => ∑ k, w r k * T k n

/-- The weighted sum of the first two polynomials, of the first three, … -/
def sums (L : Mat 4096 4096) (w : Fin 5 → Mat 80 80) (T : Mat 80 4096) (r : Fin 80) (n : Fin 4096) : ℕ → EReal
  | 0 => wmul (w 0) T r n
  | k + 1 => sums L w T r n k + wmul (w (Fin.ofNat 5 (k + 1))) (cheb L T (k + 1)) r n

/-- A layer, as the kernel computes it. -/
def layer (L : Mat 4096 4096) (w : Fin 5 → Mat 80 80) (b : Fin 80 → EReal) (T : Mat 80 4096) : Mat 80 4096 :=
  fun r n => max (sums L w T r n 4 + b r) 0

/-! ## The problem's layout -/

/-- One feature array per graph of the batch. -/
abbrev Feat (g : ℕ) := Fin 8 → Fin 4096 → Fin g → EReal

/-- The matrix applied to every feature. -/
def apply {g : ℕ} (L : Mat 4096 4096) (H : Feat g) : Feat g := fun b n f => ∑ m, H b m f * L n m

/-- The Chebyshev polynomials of a feature array. -/
def poly {g : ℕ} (L : Mat 4096 4096) (H : Feat g) : ℕ → Feat g
  | 0 => H
  | 1 => apply L H
  | k + 2 => fun b n f => two * apply L (poly L H (k + 1)) b n f - poly L H k b n f

/-- A layer, as the problem states it. -/
def conv {g : ℕ} (L : Mat 4096 4096) (W : Fin 5 → Fin g → Fin 10 → EReal) (bias : Fin 10 → EReal) (H : Feat g) : Feat 10 :=
  fun b n f => max ((∑ k : Fin 5, ∑ i : Fin g, poly L H k b n i * W k i f) + bias f) 0

/-! ## They agree -/

/-- The row of a graph's feature. -/
def row (b : Fin 8) (f : Fin 10) : Fin 80 := ⟨b.val * 10 + f.val, by omega⟩

theorem mulL_rows {g : ℕ} (L : Mat 4096 4096) (hL : ∀ n m, L n m = L m n) (ρ : Fin 8 → Fin g → Fin 80) (T : Mat 80 4096) (H : Feat g)
    (h : ∀ b i n, T (ρ b i) n = H b n i) (b : Fin 8) (i : Fin g) (n : Fin 4096) : mulL L T (ρ b i) n = apply L H b n i :=
  Finset.sum_congr rfl fun m _ => by rw [h, hL m n]

theorem cheb_rows {g : ℕ} (L : Mat 4096 4096) (hL : ∀ n m, L n m = L m n) (ρ : Fin 8 → Fin g → Fin 80) (T : Mat 80 4096) (H : Feat g)
    (h : ∀ b i n, T (ρ b i) n = H b n i) : ∀ (k : ℕ) (b : Fin 8) (i : Fin g) (n : Fin 4096), cheb L T k (ρ b i) n = poly L H k b n i
  | 0 => h
  | 1 => mulL_rows L hL ρ T H h
  | k + 2 => fun b i n => by
    have h0 := cheb_rows L hL ρ T H h k
    have h1 := mulL_rows L hL ρ _ _ (cheb_rows L hL ρ T H h (k + 1))
    show two * mulL L (cheb L T (k + 1)) (ρ b i) n - cheb L T k (ρ b i) n = two * apply L (poly L H (k + 1)) b n i - poly L H k b n i
    rw [h0, h1]

/-- A layer of the kernel is the problem's layer, when its weights act within each graph. -/
theorem layer_rows {g : ℕ} (L : Mat 4096 4096) (hL : ∀ n m, L n m = L m n) (ρ : Fin 8 → Fin g → Fin 80) (w : Fin 5 → Mat 80 80)
    (b : Fin 80 → EReal) (T : Mat 80 4096) (H : Feat g) (W : Fin 5 → Fin g → Fin 10 → EReal) (bias : Fin 10 → EReal)
    (hT : ∀ c i n, T (ρ c i) n = H c n i)
    (hw : ∀ k c f (v : Fin 80 → EReal), ∑ r, w k (row c f) r * v r = ∑ i, W k i f * v (ρ c i))
    (hb : ∀ c f, b (row c f) = bias f) (c : Fin 8) (f : Fin 10) (n : Fin 4096) :
    layer L w b T (row c f) n = conv L W bias H c n f := by
  have e : ∀ k : Fin 5, wmul (w k) (cheb L T k) (row c f) n = ∑ i, poly L H k c n i * W k i f := fun k => by
    unfold wmul
    rw [hw k c f fun r => cheb L T k r n]
    exact Finset.sum_congr rfl fun i _ => by rw [cheb_rows L hL ρ T H hT, mul_comm]
  unfold layer conv
  rw [hb, Fin.sum_univ_five, ← e 0, ← e 1, ← e 2, ← e 3, ← e 4]
  rfl

/-- Eighty rows are eight graphs of ten. -/
theorem sum_rows (F : Fin 80 → EReal) : ∑ r, F r = ∑ b : Fin 8, ∑ f : Fin 10, F (row b f) := by
  rw [← Fintype.sum_prod_type', ← Equiv.sum_comp (finProdFinEquiv (m := 8) (n := 10))]
  refine Finset.sum_congr rfl fun x _ => congrArg F (Fin.ext ?_)
  show x.2.val + 10 * x.1.val = x.1.val * 10 + x.2.val
  omega

/-- The weights of a block-diagonal matrix act within each graph. -/
theorem sum_diag (w : Mat 80 80) (W : Fin 10 → Fin 10 → EReal)
    (h : ∀ c f b i, w (row c f) (row b i) = (if b = c then 1 else 0) * W i f) (c : Fin 8) (f : Fin 10) (v : Fin 80 → EReal) :
    ∑ r, w (row c f) r * v r = ∑ i, W i f * v (row c i) := by
  rw [sum_rows, Finset.sum_eq_single c]
  · exact Finset.sum_congr rfl fun i _ => by rw [h, if_pos rfl, one_mul]
  · exact fun b _ hb => Finset.sum_eq_zero fun i _ => by rw [h, if_neg hb, zero_mul, zero_mul]
  · exact fun hc => absurd (Finset.mem_univ c) hc

/-- The first layer's weights, one column per graph and the rest zero. -/
theorem sum_first (w : Mat 80 80) (W : Fin 10 → EReal)
    (h : ∀ c f (r : Fin 80), w (row c f) r = if r.val < 8 then (if r.val = c.val then 1 else 0) * W f else 0) (c : Fin 8) (f : Fin 10)
    (v : Fin 80 → EReal) : ∑ r, w (row c f) r * v r = W f * v (c.castLE (by decide)) := by
  rw [Finset.sum_eq_single (c.castLE (by decide) : Fin 80)]
  · rw [h, if_pos (by show c.val < 8; omega), if_pos (by rfl), one_mul]
  · intro r _ hr
    rw [h]
    have : r.val ≠ c.val := fun e => hr (Fin.ext e)
    rw [if_neg this, zero_mul]
    split <;> exact zero_mul _
  · exact fun hc => absurd (Finset.mem_univ _) hc

/-! ## Real entries stay real -/

/-- Neither infinity. -/
def Real (x : EReal) : Prop := ∃ r : ℝ, x = r

theorem real_add {x y : EReal} : Real x → Real y → Real (x + y)
  | ⟨a, ha⟩, ⟨b, hb⟩ => ⟨a + b, by rw [ha, hb, EReal.coe_add]⟩
theorem real_sub {x y : EReal} : Real x → Real y → Real (x - y)
  | ⟨a, ha⟩, ⟨b, hb⟩ => ⟨a - b, by rw [ha, hb, EReal.coe_sub]⟩
theorem real_mul {x y : EReal} : Real x → Real y → Real (x * y)
  | ⟨a, ha⟩, ⟨b, hb⟩ => ⟨a * b, by rw [ha, hb, EReal.coe_mul]⟩
theorem real_zero : Real 0 := ⟨0, EReal.coe_zero.symm⟩
theorem real_max {x y : EReal} (hx : Real x) (hy : Real y) : Real (max x y) := by
  rcases max_choice x y with h | h <;> rw [h] <;> assumption
theorem real_sum {ι : Type} (s : Finset ι) (f : ι → EReal) (h : ∀ i, Real (f i)) : Real (∑ i ∈ s, f i) := by
  classical
  induction s using Finset.induction_on with
  | empty => rw [Finset.sum_empty]; exact real_zero
  | insert a s ha ih => rw [Finset.sum_insert ha]; exact real_add (h a) ih

theorem real_apply {g : ℕ} {L : Mat 4096 4096} (hL : ∀ n m, Real (L n m)) {H : Feat g} (hH : ∀ b n f, Real (H b n f)) (b n f) :
    Real (apply L H b n f) := real_sum _ _ fun m => real_mul (hH b m f) (hL n m)

theorem real_poly {g : ℕ} {L : Mat 4096 4096} (h2 : Real two) (hL : ∀ n m, Real (L n m)) {H : Feat g} (hH : ∀ b n f, Real (H b n f)) :
    ∀ k b n f, Real (poly L H k b n f)
  | 0 => hH
  | 1 => real_apply hL hH
  | k + 2 => fun b n f => real_sub (real_mul h2 (real_apply hL (real_poly h2 hL hH (k + 1)) b n f)) (real_poly h2 hL hH k b n f)

theorem real_conv {g : ℕ} {L : Mat 4096 4096} (h2 : Real two) (hL : ∀ n m, Real (L n m)) {W : Fin 5 → Fin g → Fin 10 → EReal}
    (hW : ∀ k i f, Real (W k i f)) {bias : Fin 10 → EReal} (hb : ∀ f, Real (bias f)) {H : Feat g} (hH : ∀ b n f, Real (H b n f)) (b n f) :
    Real (conv L W bias H b n f) :=
  real_max (real_add (real_sum _ _ fun k => real_sum _ _ fun i => real_mul (real_poly h2 hL hH k b n i) (hW k i f)) (hb f)) real_zero

theorem real_two : Real two := ⟨2, by
  show Ideal.ofBits .f32 0x40000000#32 = _
  norm_num [Ideal.ofBits, Ideal.ieee, BitVec.extractLsb', Nat.shiftRight_eq_div_pow, zpow_neg]⟩

/-- The literal a maximum starts from. -/
theorem bot_literal : Ideal.ofBits .f32 0xFF800000#32 = ⊥ := by
  norm_num [Ideal.ofBits, Ideal.ieee, BitVec.extractLsb', Nat.shiftRight_eq_div_pow]

/-- The logarithm of the softmax of a row of ten. -/
def lsm (z : Fin 10 → EReal) (c : Fin 10) : EReal :=
  z c - Finset.univ.fold max ⊥ z - Ideal.log (∑ k, Ideal.exp (z k - Finset.univ.fold max ⊥ z))

/-- A maximum taken out of a difference before or after another term. -/
theorem sub_add_real {x m s : EReal} (hm : Real m) : x - (m + s) = x - m - s := by
  obtain ⟨a, rfl⟩ := hm
  rw [sub_eq_add_neg, EReal.neg_add (Or.inl (EReal.coe_ne_bot a)) (Or.inl (EReal.coe_ne_top a)), sub_eq_add_neg, sub_eq_add_neg,
    sub_eq_add_neg, add_assoc]

/-- The greatest of ten real entries is real. -/
theorem real_fold (f : Fin 10 → EReal) (hf : ∀ i, Real (f i)) : Real (Finset.univ.fold max ⊥ f) := by
  have h : ∀ s : Finset (Fin 10), s.fold max ⊥ f = ⊥ ∧ s = ∅ ∨ Real (s.fold max ⊥ f) := fun s => by
    classical
    induction s using Finset.induction_on with
    | empty => exact Or.inl ⟨Finset.fold_empty, rfl⟩
    | insert a s ha ih =>
      right
      rw [Finset.fold_insert ha]
      rcases ih with ⟨h, -⟩ | h
      · rw [h, max_bot_right]; exact hf a
      · exact real_max (hf a) h
  rcases h Finset.univ with ⟨-, h⟩ | h
  · exact absurd h (Finset.univ_nonempty.ne_empty)
  · exact h

end Cert.Math

end
-- ==== Proof.Pre.lean ====
/- What the precondition says: the matrix is symmetric and every entry of every argument is a real number. -/
module

public import proofs.«01_k».proof.Proof.Gen.Pre_graph
public import proofs.«01_k».proof.Proof.Math
public import Idealize.ShloMosaic.Lib.ReduceAll
public import Idealize.ShloMosaic.Lib.Pointwise

@[expose] public section

set_option maxRecDepth 16384

noncomputable section

namespace Cert.Pre_graph

open Idealize.ShloMosaic
open Cert.Math (Real)

instance : Subsingleton S_.Idx := ⟨fun a b => funext fun i => i.elim0⟩

/-- The one index of a scalar. -/
def at0 : S_.Idx := fun i => i.elim0

theorem top_literal : Ideal.ofBits .f32 0x7F800000#32 = ⊤ := by
  norm_num [Ideal.ofBits, Ideal.ieee, BitVec.extractLsb', Nat.shiftRight_eq_div_pow]

theorem real_of_lt {x : EReal} (h : Ideal.cmp .olt (max x (-x)) (Ideal.ofBits .f32 0x7F800000#32) = 1#1) : Real x := by
  rw [top_literal] at h
  have h' : max x (-x) < ⊤ := by
    by_contra hn
    simp [Ideal.cmp, hn] at h
  induction x using EReal.rec with
  | bot => simp at h'
  | coe r => exact ⟨r, rfl⟩
  | top => simp at h'

theorem eq_of_cmp {x y : EReal} (h : Ideal.cmp .oeq x y = 1#1) : x = y := by
  by_contra hn
  simp [Ideal.cmp, hn] at h

/-- Every entry of an array is real when all of them are less than infinity in magnitude. -/
theorem real_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32)))
      (constantI S_ 1 1#1) hr hu at0 = 1#1) (i : s.Idx) : Real (x i) :=
  real_of_lt (Host.reduce_andi_all _ _ hr hu at0 e i)

/-- The facts the precondition states. -/
theorem decode (x : FVec Ideal S8x4096x1 .f32) (L : FVec Ideal S4096x4096 .f32) (W1 : FVec Ideal S5x1x10 .f32) (b1 : FVec Ideal S10 .f32)
    (W2 : FVec Ideal S5x10x10 .f32) (b2 : FVec Ideal S10 .f32) (W3 : FVec Ideal S5x10x10 .f32) (b3 : FVec Ideal S10 .f32)
    (w : FVec Ideal S40960x10 .f32) (d : FVec Ideal S10 .f32) (h : fn (F := Ideal) x L W1 b1 W2 b2 W3 b3 w d = fun _ => 1#1) :
    ((∀ n m : Fin 4096, L (ix2 n m) = L (ix2 m n)) ∧ (∀ i, Real (x i)) ∧ (∀ i, Real (L i)) ∧ (∀ i, Real (W1 i)) ∧ (∀ i, Real (b1 i)))
      ∧ (∀ i, Real (W2 i)) ∧ (∀ i, Real (b2 i)) ∧ (∀ i, Real (W3 i)) ∧ (∀ i, Real (b3 i)) ∧ (∀ i, Real (w i)) ∧ (∀ i, Real (d i)) := by
  have h := congrFun h at0
  obtain ⟨h, k9⟩ := IntOp.andi_eq_one.1 h
  obtain ⟨h, k8⟩ := IntOp.andi_eq_one.1 h
  obtain ⟨h, k7⟩ := IntOp.andi_eq_one.1 h
  obtain ⟨h, k6⟩ := IntOp.andi_eq_one.1 h
  obtain ⟨h, k5⟩ := IntOp.andi_eq_one.1 h
  obtain ⟨h, k4⟩ := IntOp.andi_eq_one.1 h
  obtain ⟨h, k3⟩ := IntOp.andi_eq_one.1 h
  obtain ⟨h, k2⟩ := IntOp.andi_eq_one.1 h
  obtain ⟨h, k1⟩ := IntOp.andi_eq_one.1 h
  obtain ⟨hs, k0⟩ := IntOp.andi_eq_one.1 h
  refine ⟨⟨fun n m => ?_, real_all _ _ _ _ k0, real_all _ _ _ _ k1, real_all _ _ _ _ k2, real_all _ _ _ _ k3⟩,
    real_all _ _ _ _ k4, real_all _ _ _ _ k5, real_all _ _ _ _ k6, real_all _ _ _ _ k7, real_all _ _ _ _ k8, real_all _ _ _ _ k9⟩
  have e := Host.reduce_andi_all _ _ _ _ at0 hs (ix2 n m)
  refine (eq_of_cmp e).trans ?_
  show transpose S4096x4096 [1, 0] L _ (ix2 n m) = L (ix2 m n)
  pointwise

end Cert.Pre_graph

end
-- ==== Proof.Ref.lean ====
/- The reference program's result, read as the problem's mathematics. -/
module

public import proofs.«01_k».proof.Proof.Gen.ReferenceIdeal.Run
public import proofs.«01_k».proof.Proof.Math
public import Idealize.ShloMosaic.Lib.Pointwise
public import Idealize.ShloMosaic.Lib.Tactic.CleanTypes

@[expose] public section

set_option maxRecDepth 16384

noncomputable section

namespace Cert.ReferenceIdeal.Value

open Idealize.ShloMosaic Idealize.ShloMosaic.TcCoe
open Cert.ReferenceIdeal Cert.ReferenceIdeal.Gen
open Cert.Math (Mat Feat apply poly conv)

variable (V : Valuation τ sig (Elt Ideal))

/-- The graph's matrix. -/
def rL : Mat 4096 4096 := fun n m => V (Proc.devRef .tc main_arg1) (ix2 n m)
/-- The network's input. -/
def rX : Feat 1 := fun b n g => V (Proc.devRef .tc main_arg0) (ix3 b n g)
/-- The three layers' weights. -/
def rW1 : Fin 5 → Fin 1 → Fin 10 → EReal := fun k g f => V (Proc.devRef .tc main_arg2) (ix3 k g f)
def rW2 : Fin 5 → Fin 10 → Fin 10 → EReal := fun k g f => V (Proc.devRef .tc main_arg4) (ix3 k g f)
def rW3 : Fin 5 → Fin 10 → Fin 10 → EReal := fun k g f => V (Proc.devRef .tc main_arg6) (ix3 k g f)
/-- And biases. -/
def rb1 : Fin 10 → EReal := fun f => V (Proc.devRef .tc main_arg3) (ix1 f)
def rb2 : Fin 10 → EReal := fun f => V (Proc.devRef .tc main_arg5) (ix1 f)
def rb3 : Fin 10 → EReal := fun f => V (Proc.devRef .tc main_arg7) (ix1 f)

theorem v1_apply (b : Fin 8) (n : Fin 4096) (g : Fin 1) : res_main_v1 V (ix3 b n g) = poly (rL V) (rX V) 1 b n g := by
  obtain rfl : g = 0 := Subsingleton.elim _ _
  unfold res_main_v1
  clean_types
  pointwise [poly, apply, rL, rX]

theorem v6_apply (b : Fin 8) (n : Fin 4096) (g : Fin 1) : res_main_v6 V (ix3 b n g) = poly (rL V) (rX V) 2 b n g := by
  obtain rfl : g = 0 := Subsingleton.elim _ _
  have h := v1_apply V
  show _ = Cert.Math.two * ∑ m, poly (rL V) (rX V) 1 b m 0 * rL V n m - rX V b n 0
  simp only [← h]
  unfold res_main_v6
  generalize res_main_v1 V = X
  clean_types
  pointwise [rL, rX]

theorem v11_apply (b : Fin 8) (n : Fin 4096) (g : Fin 1) : res_main_v11 V (ix3 b n g) = poly (rL V) (rX V) 3 b n g := by
  obtain rfl : g = 0 := Subsingleton.elim _ _
  have h := v6_apply V
  have h' := v1_apply V
  show _ = Cert.Math.two * ∑ m, poly (rL V) (rX V) 2 b m 0 * rL V n m - poly (rL V) (rX V) 1 b n 0
  simp only [← h, ← h']
  unfold res_main_v11
  generalize res_main_v1 V = X
  generalize res_main_v6 V = X
  clean_types
  pointwise [rL]

theorem v27_apply (b : Fin 8) (n : Fin 4096) (f : Fin 10) : res_main_v27 V (ix3 b n f) = conv (rL V) (rW1 V) (rb1 V) (rX V) b n f := by
  have h1 := v1_apply V
  have h2 := v6_apply V
  have h3 := v11_apply V
  have h4 : ∀ b n g, poly (rL V) (rX V) 4 b n g = Cert.Math.two * ∑ m, poly (rL V) (rX V) 3 b m g * rL V n m - poly (rL V) (rX V) 2 b n g :=
    fun _ _ _ => rfl
  simp only [← h2, ← h3] at h4
  unfold conv
  rw [Fin.sum_univ_five]
  show _ = max ((∑ i, poly (rL V) (rX V) 0 b n i * _ + ∑ i, poly (rL V) (rX V) 1 b n i * _ + ∑ i, poly (rL V) (rX V) 2 b n i * _ + ∑ i, poly (rL V) (rX V) 3 b n i * _ + ∑ i, poly (rL V) (rX V) 4 b n i * _) + _) _
  simp only [h4, ← h1, ← h2, ← h3]
  unfold res_main_v27
  generalize res_main_v1 V = X1
  generalize res_main_v6 V = X2
  generalize res_main_v11 V = X3
  clean_types
  pointwise [rL, rX, rW1, rb1]
  rw [Finset.sum_comm, Fin.sum_univ_five]
  simp only [Fin.sum_univ_one]
  rfl

/-! ## The later layers' operations -/

theorem ops_apply (L : FVec Ideal S4096x4096 .f32) (X : FVec Ideal S8x4096x10 .f32) (H : Feat 10) (hX : ∀ b n g, X (ix3 b n g) = H b n g)
    (b : Fin 8) (n : Fin 4096) (g : Fin 10) :
    transpose S8x4096x10 [0, 2, 1] (Host.dotGeneral dot_S8x4096x10_S4096x4096_S8x10x4096_1_1_02_0_n_n none X L)
      transposes_S8x10x4096_S8x4096x10_0_2_1 (ix3 b n g) = apply (fun n m => L (ix2 n m)) H b n g := by
  unfold apply
  simp only [← hX]
  pointwise

theorem ops_next (L : FVec Ideal S4096x4096 .f32) (H : Feat 10) (k : ℕ) (X P : FVec Ideal S8x4096x10 .f32)
    (hX : ∀ b n g, X (ix3 b n g) = poly (fun n m => L (ix2 n m)) H (k + 1) b n g)
    (hP : ∀ b n g, P (ix3 b n g) = poly (fun n m => L (ix2 n m)) H k b n g) (b : Fin 8) (n : Fin 4096) (g : Fin 10) :
    subf (mulf (broadcastInDim S8x4096x10 ![] bcast_S_S8x4096x10 (constant S_ .f32 0x40000000#32))
      (transpose S8x4096x10 [0, 2, 1] (Host.dotGeneral dot_S8x4096x10_S4096x4096_S8x10x4096_1_1_02_0_n_n none X L)
        transposes_S8x10x4096_S8x4096x10_0_2_1)) P (ix3 b n g) = poly (fun n m => L (ix2 n m)) H (k + 2) b n g := by
  show _ = Cert.Math.two * ∑ m, poly (fun n m => L (ix2 n m)) H (k + 1) b m g * L (ix2 n m) - poly (fun n m => L (ix2 n m)) H k b n g
  simp only [← hX, ← hP]
  pointwise

/-- One polynomial as a member of the stack of five. -/
abbrev member (X : FVec Ideal S8x4096x10 .f32) : FVec Ideal S1x8x4096x10 .f32 :=
  broadcastInDim S1x8x4096x10 ![1, 2, 3] bcast_S8x4096x10_S1x8x4096x10_1_2_3 X

theorem ops_conv (L : Mat 4096 4096) (W : FVec Ideal S5x10x10 .f32) (bias : FVec Ideal S10 .f32) (H : Feat 10)
    (X0 X1 X2 X3 X4 : FVec Ideal S8x4096x10 .f32)
    (h0 : ∀ b n g, X0 (ix3 b n g) = poly L H 0 b n g) (h1 : ∀ b n g, X1 (ix3 b n g) = poly L H 1 b n g)
    (h2 : ∀ b n g, X2 (ix3 b n g) = poly L H 2 b n g) (h3 : ∀ b n g, X3 (ix3 b n g) = poly L H 3 b n g)
    (h4 : ∀ b n g, X4 (ix3 b n g) = poly L H 4 b n g) (b : Fin 8) (n : Fin 4096) (f : Fin 10) :
    maximumf (addf (Host.dotGeneral dot_S5x8x4096x10_S5x10x10_S8x4096x10_30_10_12_2_n_n none
        (concatenate S5x8x4096x10 0 [⟨S1x8x4096x10, member X0⟩, ⟨S1x8x4096x10, member X1⟩, ⟨S1x8x4096x10, member X2⟩,
            ⟨S1x8x4096x10, member X3⟩, ⟨S1x8x4096x10, member X4⟩]
          concatenates_S1x8x4096x10_S1x8x4096x10_S1x8x4096x10_S1x8x4096x10_S1x8x4096x10_S5x8x4096x10_d0) W)
        (broadcastInDim S8x4096x10 ![0, 1, 2] bcast_S1x1x10_S8x4096x10_0_1_2 (broadcastInDim S1x1x10 ![2] bcast_S10_S1x1x10_2 bias)))
        (broadcastInDim S8x4096x10 ![] bcast_S_S8x4096x10 (constant S_ .f32 0x00000000#32)) (ix3 b n f)
      = conv L (fun k g f => W (ix3 k g f)) (fun f => bias (ix1 f)) H b n f := by
  unfold conv
  rw [Fin.sum_univ_five]
  show _ = max ((∑ i, poly L H 0 b n i * _ + ∑ i, poly L H 1 b n i * _ + ∑ i, poly L H 2 b n i * _ + ∑ i, poly L H 3 b n i * _
    + ∑ i, poly L H 4 b n i * _) + _) _
  simp only [← h0, ← h1, ← h2, ← h3, ← h4]
  pointwise [member]
  rw [Finset.sum_comm, Fin.sum_univ_five]
  rfl

/-- The first layer's output. -/
def rH1 : Feat 10 := conv (rL V) (rW1 V) (rb1 V) (rX V)
/-- The second's. -/
def rH2 : Feat 10 := conv (rL V) (rW2 V) (rb2 V) (rH1 V)
/-- The third's. -/
def rH3 : Feat 10 := conv (rL V) (rW3 V) (rb3 V) (rH2 V)

theorem v29_apply (b : Fin 8) (n : Fin 4096) (g : Fin 10) : res_main_v29 V (ix3 b n g) = poly (rL V) (rH1 V) 1 b n g :=
  ops_apply _ _ _ (v27_apply V) b n g

theorem v34_apply (b : Fin 8) (n : Fin 4096) (g : Fin 10) : res_main_v34 V (ix3 b n g) = poly (rL V) (rH1 V) 2 b n g :=
  ops_next _ _ 0 _ _ (v29_apply V) (v27_apply V) b n g

theorem v39_apply (b : Fin 8) (n : Fin 4096) (g : Fin 10) : res_main_v39 V (ix3 b n g) = poly (rL V) (rH1 V) 3 b n g :=
  ops_next _ _ 1 _ _ (v34_apply V) (v29_apply V) b n g

theorem v55_apply (b : Fin 8) (n : Fin 4096) (f : Fin 10) : res_main_v55 V (ix3 b n f) = rH2 V b n f :=
  ops_conv (rL V) _ _ (rH1 V) _ _ _ _ _ (v27_apply V) (v29_apply V) (v34_apply V) (v39_apply V)
    (fun b n g => ops_next _ _ 2 _ _ (v39_apply V) (v34_apply V) b n g) b n f

theorem v57_apply (b : Fin 8) (n : Fin 4096) (g : Fin 10) : res_main_v57 V (ix3 b n g) = poly (rL V) (rH2 V) 1 b n g :=
  ops_apply _ _ _ (v55_apply V) b n g

theorem v62_apply (b : Fin 8) (n : Fin 4096) (g : Fin 10) : res_main_v62 V (ix3 b n g) = poly (rL V) (rH2 V) 2 b n g :=
  ops_next _ _ 0 _ _ (v57_apply V) (v55_apply V) b n g

theorem v67_apply (b : Fin 8) (n : Fin 4096) (g : Fin 10) : res_main_v67 V (ix3 b n g) = poly (rL V) (rH2 V) 3 b n g :=
  ops_next _ _ 1 _ _ (v62_apply V) (v57_apply V) b n g

/-! ## The head -/

/-- What the head's product and bias make of the last layer's output. -/
theorem ops_head (X : FVec Ideal S8x4096x10 .f32) (w : FVec Ideal S40960x10 .f32) (v : FVec Ideal S10 .f32) (H : Feat 10)
    (hX : ∀ b n g, X (ix3 b n g) = H b n g) (b : Fin 8) (c : Fin 10) :
    addf (Host.dotGeneral dot_S8x40960_S40960x10_S8x10_1_0_0_1_n_n none (shapeCast _ X shapeCasts_S8x4096x10_S8x40960) w)
      (broadcastInDim S8x10 ![0, 1] bcast_S1x10_S8x10_0_1 (broadcastInDim S1x10 ![1] bcast_S10_S1x10_1 v)) (ix2 b c)
      = (∑ j : Fin 40960, H b ⟨j.val / 10, by omega⟩ ⟨j.val % 10, by omega⟩ * w (ix2 j c)) + v (ix1 c) := by
  simp only [← hX]
  pointwise

/-- The head's entries before the log-softmax. -/
def rZ : Mat 8 10 := fun b c =>
  (∑ j : Fin 40960, rH3 V b ⟨j.val / 10, by omega⟩ ⟨j.val % 10, by omega⟩ * V (Proc.devRef .tc main_arg8) (ix2 j c))
    + V (Proc.devRef .tc main_arg9) (ix1 c)

theorem v88_apply (b : Fin 8) (c : Fin 10) : res_main_v88 V (ix2 b c) = rZ V b c :=
  ops_head _ _ _ (rH3 V) (fun b n f => ops_conv (rL V) _ _ (rH2 V) _ _ _ _ _ (v55_apply V) (v57_apply V) (v62_apply V) (v67_apply V)
    (fun b n g => ops_next _ _ 2 _ _ (v67_apply V) (v62_apply V) b n g) b n f) b c

/-- The reference's result. -/
def result : FVec Ideal S8x10 .f32 :=
  subf (res_main_call3_v5 V) (broadcastInDim S8x10 ![0, 1] bcast_S8x1_S8x10_0_1 (Host.log (broadcastInDim S8x1 ![0] bcast_S8_S8x1_0
    (Host.reduceAdd (Host.exp (res_main_call3_v5 V)) (constant S_ .f32 0x00000000#32) reducesTo_S8x10_S8_d1 h_S_))))

theorem result_apply (b : Fin 8) (c : Fin 10) : result V (ix2 b c) = Cert.Math.lsm (rZ V b) c := by
  have h := v88_apply V
  unfold result res_main_call3_v5 Cert.Math.lsm
  simp only [← h, ← Cert.Math.bot_literal]
  generalize res_main_v88 V = X
  clean_types
  pointwise
  have e (x : EReal) : max (Ideal.ofBits .f32 0xFF800000#32) x = x := by rw [Cert.Math.bot_literal]; exact max_bot_left x
  simp only [e]

end Cert.ReferenceIdeal.Value

end
-- ==== Proof.KernelIdeal.Blocks.lean ====
/- A block of columns at an index, and the kernel's payloads at an index, over the extended reals. -/
module

public import proofs.«01_k».proof.Proof.KernelIdeal.Step
public import proofs.«01_k».proof.Proof.Math
public import Idealize.ShloMosaic.Lib.Pointwise

@[expose] public section

set_option maxRecDepth 16384

noncomputable section

namespace Cert.KernelIdeal

open Idealize.ShloMosaic Idealize.ShloMosaic.TcCoe
open Cert.KernelIdeal.Gen
open Cert.Math (Mat mulL next wmul cheb sums layer)

/-- An array of 80 rows, entry by entry. -/
def arr {φ : FTy} (f : Mat 80 4096) : FVec Ideal S80x4096 φ := fun y => f (y 0) (y 1)
/-- Its entries. -/
def mat (v : S80x4096.Idx → EReal) : Mat 80 4096 := fun r n => v (ix2 r n)

theorem mat_arr {φ : FTy} (f : Mat 80 4096) : mat (arr (φ := φ) f) = f := rfl
theorem arr_mat {φ : FTy} (v : FVec Ideal S80x4096 φ) : arr (φ := φ) (mat v) = v := by
  funext y
  exact congrArg v (eq_ix2 y).symm

theorem ext_arr {φ : FTy} {v : FVec Ideal S80x4096 φ} {f : Mat 80 4096} (h : ∀ r n, v (ix2 r n) = f r n) : v = arr f := by
  funext y
  rw [eq_ix2 y]
  exact h _ _

/-! ## Blocks of columns -/

section
variable {F : FTy → Type} [FloatOps F]

/-- The column a block's column is. -/
def colOf (i : grid1.Coords) (n : Fin 2048) : Fin 4096 := ⟨2048 * (i 1).val + n.val, by
  have h : (i 1).val < 2 := (i 1).isLt
  omega⟩

theorem blk_apply (i : grid1.Coords) (v : Vec F S80x4096 .f32) (r : Fin 80) (n : Fin 2048) :
    blk i v (ix2 r n) = v (ix2 r (colOf i n)) := by
  show v _ = v _
  refine congrArg v ?_
  funext a
  apply Fin.ext
  fin_cases a
  · show 0 + 1 * r.val = r.val; omega
  · show 2048 * (i 1).val + 1 * n.val = 2048 * (i 1).val + n.val; omega

/-- Two blocks with the same entries. -/
theorem blk_ext {v w : Vec F S80x2048 .f32} (h : ∀ (r : Fin 80) (n : Fin 2048), v (ix2 r n) = w (ix2 r n)) : v = w := by
  funext y
  have e := h (y 0) (y 1)
  rwa [← eq_ix2 y] at e

theorem blk_put_same (i : grid1.Coords) (v : Vec F S80x4096 .f32) (w : Vec F S80x2048 .f32) : blk i (putBlk i v w) = w :=
  VecWindow.window_put_same ..

theorem blk_put_ne (i j : grid1.Coords) (hi : (i 1).val = 0) (hj : (j 1).val = 1) (v : Vec F S80x4096 .f32) (w : Vec F S80x2048 .f32) :
    blk j (putBlk i v w) = blk j v := by
  refine blk_ext fun r n => ?_
  rw [blk_apply, blk_apply]
  unfold putBlk VecWindow.put
  refine dif_neg fun h => ?_
  have e : 2048 * (j 1).val + n.val < 2048 * (i 1).val + 2048 := (h 1).2
  omega

/-- Two blocks of an array cover it. -/
theorem put_put (i j : grid1.Coords) (hi : (i 1).val = 0) (hj : (j 1).val = 1) (v X : Vec F S80x4096 .f32) :
    putBlk j (putBlk i v (blk i X)) (blk j X) = X := by
  funext y
  unfold putBlk VecWindow.put
  split
  · rename_i h
    refine congrArg X ?_
    funext a
    apply Fin.ext
    have := (h a).1
    fin_cases a
    · show 0 + 1 * ((y 0).val - 0) = (y 0).val; omega
    · have e : 2048 * (j 1).val ≤ (y 1).val := this
      show 2048 * (j 1).val + 1 * ((y 1).val - 2048 * (j 1).val) = (y 1).val; omega
  · rename_i h
    have hy0 : (y 0).val < 80 := (y 0).isLt
    have hy1 : (y 1).val < 4096 := (y 1).isLt
    have hlt : (y 1).val < 2048 := by
      by_contra hc
      refine h fun a => ?_
      fin_cases a
      · exact ⟨Nat.zero_le _, by show (y 0).val < 0 + 80; omega⟩
      · exact ⟨by show 2048 * (j 1).val ≤ (y 1).val; omega, by show (y 1).val < 2048 * (j 1).val + 2048; omega⟩
    have h' : ∀ a, col i a ≤ (y a).val ∧ (y a).val < col i a + S80x2048.size a := fun a => by
      fin_cases a
      · exact ⟨Nat.zero_le _, by show (y 0).val < 0 + 80; omega⟩
      · exact ⟨by show 2048 * (i 1).val ≤ (y 1).val; omega, by show (y 1).val < 2048 * (i 1).val + 2048; omega⟩
    rw [dif_pos h']
    refine congrArg X ?_
    funext a
    apply Fin.ext
    fin_cases a
    · show 0 + 1 * ((y 0).val - 0) = (y 0).val; omega
    · show 2048 * (i 1).val + 1 * ((y 1).val - 2048 * (i 1).val) = (y 1).val; omega

end

/-! ## Payloads -/

/-- The graph's matrix's block of columns of a point. -/
def colsOf (L : Mat 4096 4096) (i : grid1.Coords) : Vec Ideal S4096x2048 .bf16 := fun y => L (y 0) (colOf i (y 1))

/-- The product of a point's block. -/
theorem prod_apply (L : Mat 4096 4096) (i : grid1.Coords) (T : Vec Ideal S80x4096 .bf16) (r : Fin 80) (n : Fin 2048) :
    k1_pay18 T (colsOf L i) (ix2 r n) = mulL L (mat T) r (colOf i n) := by
  pointwise [k1_pay18, colsOf, mulL, mat]

theorem renew0 (L : Mat 4096 4096) (i : grid1.Coords) (T : Vec Ideal S80x4096 .bf16) (P : Vec Ideal S80x4096 .f32) :
    k1_pay2 (k1_pay18 T (colsOf L i)) (blk (F := Ideal) i P) = blk (F := Ideal) i (arr (φ := .f32) (next L (mat T) (mat P))) := by
  refine blk_ext (F := Ideal) fun r n => ?_
  have h := prod_apply L i T r n
  have h' := blk_apply (F := Ideal) i P r n
  generalize k1_pay18 T (colsOf L i) = D at h ⊢
  generalize blk (F := Ideal) i P = B at h' ⊢
  rw [blk_apply (F := Ideal) i (arr (φ := .f32) _) r n]
  show _ = Cert.Math.two * mulL L (mat T) r (colOf i n) - P (ix2 r (colOf i n))
  rw [← h, ← h']
  pointwise [k1_pay2]

theorem renew1 (L : Mat 4096 4096) (i : grid1.Coords) (q : BitVec 32) (hq : Scalar.cmpi .eq q 0#32 = 0#1) (T : Vec Ideal S80x4096 .bf16) (P : Vec Ideal S80x4096 .f32) :
    k1_pay1 q (k1_pay18 T (colsOf L i)) (blk (F := Ideal) i P) = blk (F := Ideal) i (arr (φ := .f32) (next L (mat T) (mat P))) := by
  rw [← renew0]
  generalize k1_pay18 T (colsOf L i) = D
  generalize blk (F := Ideal) i P = B
  unfold k1_pay1 k1_pay2
  simp only [hq]
  rfl

theorem renew_first (L : Mat 4096 4096) (i : grid1.Coords) (q : BitVec 32) (hc : Scalar.cmpi .eq q 0#32 = 1#1) (T : Vec Ideal S80x4096 .bf16) (P : Vec Ideal S80x4096 .f32) :
    k1_pay1 q (k1_pay18 T (colsOf L i)) (blk (F := Ideal) i P) = blk (F := Ideal) i (arr (φ := .f32) (mulL L (mat T))) := by
  refine blk_ext (F := Ideal) fun r n => ?_
  have h := prod_apply L i T r n
  generalize k1_pay18 T (colsOf L i) = D at h ⊢
  generalize blk (F := Ideal) i P = B
  rw [blk_apply (F := Ideal) i (arr (φ := .f32) _) r n]
  show _ = mulL L (mat T) r (colOf i n)
  rw [← h]
  unfold k1_pay1
  simp only [hc]
  pointwise

/-- A weight matrix of a step. -/
def wmat (w : Vec Ideal S1x1x80x80 .f32) : Mat 80 80 := fun r k => w (ix4 0 0 r k)
/-- A step's bias. -/
def bvec (b : Vec Ideal S1x80x1 .f32) : Fin 80 → EReal := fun r => b (ix3 0 r 0)

theorem pay9 (x y : Vec Ideal S80x4096 .f32) (w1 w0 : Vec Ideal S1x1x80x80 .f32) (r : Fin 80) (n : Fin 4096) :
    k1_pay9 x y w1 w0 (ix2 r n) = wmul (wmat w1) (mat x) r n + wmul (wmat w0) (mat y) r n := by
  pointwise [k1_pay9, k1_pay4, k1_pay5, wmul, wmat, mat]

theorem pay14 (A P : Vec Ideal S80x4096 .f32) (w : Vec Ideal S1x1x80x80 .f32) (r : Fin 80) (n : Fin 4096) :
    k1_pay14 A w P (ix2 r n) = A (ix2 r n) + wmul (wmat w) (mat P) r n := by
  pointwise [k1_pay14, wmul, wmat, mat]

theorem pay16 (A P : Vec Ideal S80x4096 .f32) (w : Vec Ideal S1x1x80x80 .f32) (r : Fin 80) (n : Fin 4096) :
    k1_pay16 A w P (ix2 r n) = A (ix2 r n) + wmul (wmat w) (mat P) r n := by
  pointwise [k1_pay16, wmul, wmat, mat]

theorem pay10 (A P : Vec Ideal S80x4096 .f32) (w : Vec Ideal S1x1x80x80 .f32) (b : Vec Ideal S1x80x1 .f32) (r : Fin 80) (n : Fin 4096) :
    k1_pay10 A w P b (ix2 r n) = max (A (ix2 r n) + wmul (wmat w) (mat P) r n + bvec b r) 0 := by
  pointwise [k1_pay10, wmul, wmat, mat, bvec]

theorem pay11 (A P : Vec Ideal S80x4096 .f32) (w : Vec Ideal S1x1x80x80 .f32) (b : Vec Ideal S1x80x1 .f32) (r : Fin 80) (n : Fin 4096) :
    k1_pay11 A w P b (ix2 r n) = max (A (ix2 r n) + wmul (wmat w) (mat P) r n + bvec b r) 0 := by
  rw [← pay10]
  pointwise [k1_pay11]

theorem pay12 (A P : Vec Ideal S80x4096 .f32) (w : Vec Ideal S1x1x80x80 .f32) (b : Vec Ideal S1x80x1 .f32) (r : Fin 80) (n : Fin 4096) :
    k1_pay12 A w P b (ix2 r n) = max (A (ix2 r n) + wmul (wmat w) (mat P) r n + bvec b r) 0 := by
  rw [← pay10]
  pointwise [k1_pay12]

theorem pay13 (A P : Vec Ideal S80x4096 .f32) (w w' : Vec Ideal S1x1x80x80 .f32) (b : Vec Ideal S1x80x1 .f32) (r : Fin 80) (n : Fin 4096) :
    k1_pay13 A w P b w' (ix2 r n) = wmul (wmat w') (fun r n => max (A (ix2 r n) + wmul (wmat w) (mat P) r n + bvec b r) 0) r n := by
  have h := pay10 A P w b
  generalize hX : k1_pay10 A w P b = X at h
  show _ = ∑ k, wmat w' r k * max (A (ix2 k n) + wmul (wmat w) (mat P) k n + bvec b k) 0
  simp only [← h]
  unfold k1_pay13
  rw [hX]
  pointwise [wmat]

theorem pay6 (x : Vec Ideal S80x4096 .f32) (r : Fin 80) (n : Fin 4096) : k1_pay6 x (ix2 r n) = mat x r n := by
  pointwise [k1_pay6, k1_pay4, mat]
theorem pay7 (x : Vec Ideal S80x4096 .f32) (r : Fin 80) (n : Fin 4096) : k1_pay7 x (ix2 r n) = mat x r n := by
  pointwise [k1_pay7, k1_pay5, mat]
theorem pay8 (x : Vec Ideal S80x4096 .f32) (r : Fin 80) (n : Fin 4096) : k1_pay8 x (ix2 r n) = mat x r n := by
  pointwise [k1_pay8, k1_pay5, mat]
theorem pay15 (x : Vec Ideal S80x4096 .f32) (r : Fin 80) (n : Fin 4096) : k1_pay15 x (ix2 r n) = mat x r n := by
  pointwise [k1_pay15, mat]
theorem pay17 (x : Vec Ideal S80x4096 .f32) (r : Fin 80) (n : Fin 4096) : k1_pay17 x (ix2 r n) = mat x r n := by
  pointwise [k1_pay17, mat]

/-- What a point of the last step writes. -/
theorem emit_blk (i : grid1.Coords) (P A : Vec Ideal S80x4096 .f32) (w : Vec Ideal S80x80 .f32) (b : Vec Ideal S80x1 .f32) :
    k1_pay3 (F := Ideal) (blk i P) (blk i A) w b
      = blk (F := Ideal) i (arr (φ := .f32) fun r n => max (A (ix2 r n) + wmul (fun r k => w (ix2 r k)) (mat P) r n + b (ix2 r 0)) 0) := by
  refine blk_ext (F := Ideal) fun r n => ?_
  have h := fun k => blk_apply (F := Ideal) i P k n
  have h' := blk_apply (F := Ideal) i A r n
  rw [blk_apply (F := Ideal) i (arr (φ := .f32) _) r n]
  show _ = max (A (ix2 r (colOf i n)) + ∑ k, w (ix2 r k) * P (ix2 k (colOf i n)) + b (ix2 r 0)) 0
  simp only [← h, ← h']
  generalize blk (F := Ideal) i P = P
  generalize blk (F := Ideal) i A = A
  pointwise [k1_pay3]

end Cert.KernelIdeal

end
-- ==== Proof.KernelIdeal.Recur.lean ====
/- The recurrence's steps over the extended reals: two points renew a whole polynomial, and the eleven steps are three
   layers. -/
module

public import proofs.«01_k».proof.Proof.KernelIdeal.Run
public import proofs.«01_k».proof.Proof.KernelIdeal.Blocks

@[expose] public section

set_option maxRecDepth 16384

noncomputable section

namespace Cert.KernelIdeal

open Idealize.ShloMosaic Idealize.ShloMosaic.TcCoe
open Cert.KernelIdeal.Gen
open Cert.Math (Mat mulL next wmul cheb sums layer)

/-- A step's two points. -/
def p0 (s : Fin 11) : Fin cfg1.N := ⟨2 * s.val, by show _ < grid1.N; rw [N_1]; omega⟩
def p1 (s : Fin 11) : Fin cfg1.N := ⟨2 * s.val + 1, by show _ < grid1.N; rw [N_1]; omega⟩

/-- The points' coordinates, and which polynomial they renew. -/
theorem at_points : ∀ s : Fin 11,
    (grid1.coords (p0 s) 1).val = 0 ∧ (grid1.coords (p1 s) 1).val = 1
    ∧ (k1_cond6 (grid1.coords (p0 s)) = 1#1 ↔ s.val % 2 = 0) ∧ (k1_cond6 (grid1.coords (p1 s)) = 1#1 ↔ s.val % 2 = 0)
    ∧ (k1_cond5 (grid1.coords (p0 s)) = 1#1 ↔ s.val % 2 = 1) ∧ (k1_cond5 (grid1.coords (p1 s)) = 1#1 ↔ s.val % 2 = 1)
    ∧ Scalar.cmpi .eq (qOf (grid1.coords (p0 s))) 0#32 = (if s.val % 4 = 3 then 1#1 else 0#1)
    ∧ Scalar.cmpi .eq (qOf (grid1.coords (p1 s))) 0#32 = (if s.val % 4 = 3 then 1#1 else 0#1)
    ∧ ¬ first (grid1.coords (p1 s)) ∧ ¬ ends (grid1.coords (p1 s)) ∧ ¬ odd (grid1.coords (p1 s)) ∧ ¬ two (grid1.coords (p1 s)) := by
  decide +kernel

/-- What opens a step. -/
theorem at_opening : ∀ s : Fin 11,
    (first (grid1.coords (p0 s)) ↔ s.val = 0) ∧ (ends (grid1.coords (p0 s)) ↔ s.val % 4 = 3)
    ∧ (odd (grid1.coords (p0 s)) ↔ s.val % 2 = 0 ∧ s.val ≠ 0) ∧ (two (grid1.coords (p0 s)) ↔ s.val % 4 = 1) := by
  decide +kernel

/-- A whole polynomial renewed. -/
def full (L : Mat 4096 4096) (s : ℕ) (O : Scr Ideal) : Scr Ideal :=
  ⟨if s % 2 = 0 then arr (φ := .f32) (next L (mat O.T) (mat O.P0)) else O.P0,
   if s % 2 = 1 then (if s % 4 = 3 then arr (φ := .f32) (mulL L (mat O.T)) else arr (φ := .f32) (next L (mat O.T) (mat O.P1))) else O.P1, O.T, O.A⟩

theorem opening_p1 (s : Fin 11) (x : Ins Ideal) (S : Scr Ideal) : opening (grid1.coords (p1 s)) x S = S := by
  obtain ⟨-, -, -, -, -, -, -, -, h1, h2, h3, h4⟩ := at_points s
  unfold opening
  rw [if_neg h1, if_neg h2, if_neg h3, if_neg h4]

/-- A step's two points after its opening. -/
theorem two_points (L : Mat 4096 4096) (s : Fin 11) (x y : Ins Ideal) (hx : x.L = colsOf L (grid1.coords (p0 s)))
    (hy : y.L = colsOf L (grid1.coords (p1 s))) (O : Scr Ideal) :
    advance (grid1.coords (p1 s)) y (advance (grid1.coords (p0 s)) x O) = full L s.val O := by
  obtain ⟨i0, j1, a6, b6, a5, b5, qa, qb, -⟩ := at_points s
  have key (P X : Vec Ideal S80x4096 .f32) (w w' : Vec Ideal S80x2048 .f32) (hw : w = blk (grid1.coords (p0 s)) X)
      (hw' : w' = blk (grid1.coords (p1 s)) X) : putBlk (grid1.coords (p1 s)) (putBlk (grid1.coords (p0 s)) P w) w' = X := by
    rw [hw, hw']; exact put_put _ _ i0 j1 P X
  obtain ⟨P0, P1, T, A⟩ := O
  unfold advance full
  rw [hx, hy]
  simp only [a6, b6, a5, b5]
  congr 1
  · by_cases h : s.val % 2 = 0
    · rw [if_pos h, if_pos h, if_pos h]
      refine key _ _ _ _ (renew0 L _ T P0) ?_
      rw [blk_put_ne _ _ i0 j1]
      exact renew0 L _ T P0
    · rw [if_neg h, if_neg h, if_neg h]
  · by_cases h : s.val % 2 = 1
    · rw [if_pos h, if_pos h, if_pos h]
      by_cases h3 : s.val % 4 = 3
      · rw [if_pos h3] at qa qb ⊢
        exact key _ _ _ _ (renew_first L _ _ qa T P1) (renew_first L _ _ qb T _)
      · rw [if_neg h3] at qa qb ⊢
        refine key _ _ _ _ (renew1 L _ _ qa T P1) ?_
        rw [blk_put_ne _ _ i0 j1]
        exact renew1 L _ _ qb T P1
    · rw [if_neg h, if_neg h, if_neg h]

/-- The entries of the two polynomials and of the sum. -/
structure Holds (S : Scr Ideal) (P0 P1 A : Mat 80 4096) : Prop where
  /-- The polynomial of even order. -/
  p0 : mat S.P0 = P0
  /-- The polynomial of odd order. -/
  p1 : mat S.P1 = P1
  /-- The sum so far. -/
  a : mat S.A = A

variable (V : Dev nD → Valuation τ sig (Elt Ideal)) (c : Dev nD)

/-- The state after a step, from the state before it. -/
theorem st_step (L : Mat 4096 4096) (hL : ∀ t, (ins V c t).L = colsOf L (grid1.coords t)) (s : Fin 11) :
    st V c (2 * (s.val + 1)) = full L s.val (opening (grid1.coords (p0 s)) (ins V c (p0 s)) (st V c (2 * s.val))) := by
  have e1 := st_succ V c (p1 s)
  have e0 := st_succ V c (p0 s)
  rw [show 2 * (s.val + 1) = (p1 s).val + 1 from rfl, e1, show (p1 s).val = (p0 s).val + 1 from rfl, e0]
  unfold step
  rw [opening_p1]
  exact two_points L s _ _ (hL _) (hL _) _

/-- A step's weights and bias. -/
def w0At (s : Fin 11) : Mat 80 80 := wmat (ins V c (p0 s)).w0
def w1At (s : Fin 11) : Mat 80 80 := wmat (ins V c (p0 s)).w1
def bAt (s : Fin 11) : Fin 80 → EReal := bvec (ins V c (p0 s)).b

variable (L : Mat 4096 4096) (hL : ∀ t, (ins V c t).L = colsOf L (grid1.coords t))

include hL

theorem step_first (x y : Mat 80 4096) (hx : mat (ins V c (p0 0)).x = x) (hy : mat (ins V c (p0 0)).y = y) :
    Holds (st V c 2) (next L y x) y (fun r n => wmul (w1At V c 0) x r n + wmul (w0At V c 0) y r n) := by
  have e := st_step V c L hL 0
  rw [show 2 * ((0 : Fin 11).val + 1) = 2 from rfl] at e
  rw [e]
  unfold opening
  rw [if_pos ((at_opening 0).1.2 rfl), ← hx, ← hy]
  refine ⟨?_, ?_, ?_⟩
  · unfold full; dsimp only; rw [if_pos (by decide), mat_arr]
    congr 1
    · funext r n; exact pay8 _ r n
    · funext r n; exact pay6 _ r n
  · unfold full; dsimp only; rw [if_neg (by decide)]
    funext r n; exact pay7 _ r n
  · funext r n; exact pay9 _ _ _ _ r n

theorem step_two (s : Fin 11) (hs : s.val % 4 = 1) {P0 P1 A : Mat 80 4096} (h : Holds (st V c (2 * s.val)) P0 P1 A) :
    Holds (st V c (2 * (s.val + 1))) P0 (next L P0 P1) (fun r n => A r n + wmul (w0At V c s) P0 r n) := by
  obtain ⟨o1, o2, o3, o4⟩ := at_opening s
  rw [st_step V c L hL s]
  unfold opening
  rw [if_neg (fun h => by have := o1.1 h; omega), if_neg (fun h => by have := o2.1 h; omega), if_neg (fun h => by have := o3.1 h; omega),
    if_pos (o4.2 hs), ← h.p0, ← h.p1, ← h.a]
  refine ⟨?_, ?_, ?_⟩
  · unfold full; dsimp only; rw [if_neg (by omega)]
  · unfold full; dsimp only; rw [if_pos (by omega), if_neg (by omega), mat_arr]
    congr 1
    funext r n; exact pay17 _ r n
  · funext r n; exact pay16 _ _ _ r n

theorem step_odd (s : Fin 11) (hs : s.val % 2 = 0 ∧ s.val ≠ 0) {P0 P1 A : Mat 80 4096} (h : Holds (st V c (2 * s.val)) P0 P1 A) :
    Holds (st V c (2 * (s.val + 1))) (next L P1 P0) P1 (fun r n => A r n + wmul (w0At V c s) P1 r n) := by
  obtain ⟨o1, o2, o3, o4⟩ := at_opening s
  rw [st_step V c L hL s]
  unfold opening
  rw [if_neg (fun h => by have := o1.1 h; omega), if_neg (fun h => by have := o2.1 h; omega), if_pos (o3.2 hs), ← h.p0, ← h.p1, ← h.a]
  refine ⟨?_, ?_, ?_⟩
  · unfold full; dsimp only; rw [if_pos (by omega), mat_arr]
    congr 1
    funext r n; exact pay15 _ r n
  · unfold full; dsimp only; rw [if_neg (by omega)]
  · funext r n; exact pay14 _ _ _ r n

theorem step_ends (s : Fin 11) (hs : s.val % 4 = 3) {P0 P1 A H : Mat 80 4096} (h : Holds (st V c (2 * s.val)) P0 P1 A)
    (hH : H = fun r n => max (A r n + wmul (w0At V c s) P0 r n + bAt V c s r) 0) :
    Holds (st V c (2 * (s.val + 1))) H (mulL L H) (wmul (w1At V c s) H) := by
  obtain ⟨o1, o2, o3, o4⟩ := at_opening s
  rw [st_step V c L hL s]
  unfold opening
  rw [if_neg (fun h => by have := o1.1 h; omega), if_pos (o2.2 hs), hH, ← h.p0, ← h.a]
  refine ⟨?_, ?_, ?_⟩
  · unfold full; dsimp only; rw [if_neg (by omega)]
    funext r n; exact pay11 _ _ _ _ r n
  · unfold full; dsimp only; rw [if_pos (by omega), if_pos hs, mat_arr]
    congr 1
    funext r n; exact pay12 _ _ _ _ r n
  · funext r n; exact pay13 _ _ _ _ _ r n

/-- The state once a layer's second polynomial is there. -/
abbrev Begun (n : ℕ) (w : Fin 5 → Mat 80 80) (H : Mat 80 4096) : Prop :=
  Holds (st V c n) (cheb L H 2) (cheb L H 1) (fun r n => sums L w H r n 1)

/-- The state before a layer's last polynomial is added. -/
abbrev Ending (n : ℕ) (w : Fin 5 → Mat 80 80) (H : Mat 80 4096) : Prop :=
  Holds (st V c n) (cheb L H 4) (cheb L H 3) (fun r n => sums L w H r n 3)

/-- The two steps in a layer's middle. -/
theorem middle (s : Fin 11) (s' : Fin 11) (hs : s.val % 4 = 1) (hs' : s'.val = s.val + 1) (w : Fin 5 → Mat 80 80) (H : Mat 80 4096)
    (h2 : w0At V c s = w 2) (h3 : w0At V c s' = w 3) (h : Begun V c L (2 * s.val) w H) : Ending V c L (2 * (s'.val + 1)) w H := by
  have a := step_two V c L hL s hs h
  rw [h2, ← hs'] at a
  have b := step_odd V c L hL s' (by omega) a
  rw [h3] at b
  exact b

/-- From one layer to the next. -/
theorem onward (s : Fin 11) (s' : Fin 11) (hs : s.val % 4 = 3) (hs' : s'.val = s.val + 1) (w w' : Fin 5 → Mat 80 80) (b : Fin 80 → EReal)
    (H : Mat 80 4096) (h4 : w0At V c s = w 4) (hb : bAt V c s = b) (h0 : w1At V c s = w' 0) (h1 : w0At V c s' = w' 1)
    (h : Ending V c L (2 * s.val) w H) : Begun V c L (2 * (s'.val + 1)) w' (layer L w b H) := by
  have a := step_ends V c L hL s hs h (H := layer L w b H) (by rw [h4, hb]; rfl)
  rw [h0, ← hs'] at a
  have d := step_odd V c L hL s' (by omega) a
  rw [h1] at d
  exact d

/-- The recurrence's result from the state after its last point. -/
theorem final_of (P0 P1 A : Mat 80 4096) (h : Holds (st V c 22) P0 P1 A) (wl : Vec Ideal S80x80 .f32) (bl : Vec Ideal S80x1 .f32)
    (hw0 : (ins V c (p0 10)).wl = wl) (hw1 : (ins V c (p1 10)).wl = wl) (hb0 : (ins V c (p0 10)).bl = bl) (hb1 : (ins V c (p1 10)).bl = bl) :
    final1 V c = arr (φ := .f32) fun r n => max (A r n + wmul (fun r k => wl (ix2 r k)) P0 r n + bl (ix2 r 0)) 0 := by
  have e := st_step V c L hL 10
  have e1 := st_succ V c (p1 10)
  have e0 := st_succ V c (p0 10)
  rw [show 2 * ((10 : Fin 11).val + 1) = 22 from rfl] at e
  have s1 : step (grid1.coords (p1 10)) (ins V c (p1 10)) (st V c 21) = st V c 22 := e1.symm
  have s0 : blk (grid1.coords (p0 10)) (step (grid1.coords (p0 10)) (ins V c (p0 10)) (st V c 20)).P0 = blk (grid1.coords (p0 10)) (st V c 22).P0 := by
    rw [e]
    unfold step advance full
    dsimp only
    rw [if_pos ((at_points 10).2.2.1.2 rfl), blk_put_same, hL, renew0]
    rfl
  have sA : (step (grid1.coords (p0 10)) (ins V c (p0 10)) (st V c 20)).A = (st V c 22).A := by rw [e]; rfl
  show emit (grid1.coords (p1 10)) (ins V c (p1 10)) (st V c 21) (emit (grid1.coords (p0 10)) (ins V c (p0 10)) (st V c 20) _) = _
  unfold emit
  rw [if_pos (show k1_cond7 (grid1.coords (p0 10)) = 1#1 from c20.2), if_pos (show k1_cond7 (grid1.coords (p1 10)) = 1#1 from c21.2),
    s1, s0, sA, hw0, hw1, hb0, hb1, emit_blk, emit_blk, put_put (grid1.coords (p0 10)) (grid1.coords (p1 10)) c20.1 c21.1]
  obtain ⟨rfl, -, rfl⟩ := h
  rfl

/-- The recurrence's result: three layers. -/
theorem final_eq (x : Mat 80 4096) (w : Fin 3 → Fin 5 → Mat 80 80) (b : Fin 3 → Fin 80 → EReal) (wl : Vec Ideal S80x80 .f32) (bl : Vec Ideal S80x1 .f32)
    (hx : mat (ins V c (p0 0)).x = x) (hy : mat (ins V c (p0 0)).y = mulL L x)
    (h00 : w1At V c 0 = w 0 0) (h01 : w0At V c 0 = w 0 1) (h02 : w0At V c 1 = w 0 2) (h03 : w0At V c 2 = w 0 3) (h04 : w0At V c 3 = w 0 4)
    (h10 : w1At V c 3 = w 1 0) (h11 : w0At V c 4 = w 1 1) (h12 : w0At V c 5 = w 1 2) (h13 : w0At V c 6 = w 1 3) (h14 : w0At V c 7 = w 1 4)
    (h20 : w1At V c 7 = w 2 0) (h21 : w0At V c 8 = w 2 1) (h22 : w0At V c 9 = w 2 2) (h23 : w0At V c 10 = w 2 3)
    (hb0 : bAt V c 3 = b 0) (hb1 : bAt V c 7 = b 1)
    (hw0 : (ins V c (p0 10)).wl = wl) (hw1 : (ins V c (p1 10)).wl = wl) (hl0 : (ins V c (p0 10)).bl = bl) (hl1 : (ins V c (p1 10)).bl = bl)
    (h24 : (fun r k => wl (ix2 r k)) = w 2 4) (hb2 : (fun r => bl (ix2 r 0)) = b 2) :
    final1 V c = arr (φ := .f32) (layer L (w 2) (b 2) (layer L (w 1) (b 1) (layer L (w 0) (b 0) x))) := by
  have a := step_first V c L hL x _ hx hy
  rw [h00, h01] at a
  have a1 : Begun V c L 2 (w 0) x := a
  have a2 := middle V c L hL 1 2 rfl rfl (w 0) x h02 h03 a1
  have b1 := onward V c L hL 3 4 rfl rfl (w 0) (w 1) (b 0) x h04 hb0 h10 h11 a2
  have b2 := middle V c L hL 5 6 rfl rfl (w 1) _ h12 h13 b1
  have d1 := onward V c L hL 7 8 rfl rfl (w 1) (w 2) (b 1) _ h14 hb1 h20 h21 b2
  have d2 := middle V c L hL 9 10 rfl rfl (w 2) _ h22 h23 d1
  rw [final_of V c L hL _ _ _ d2 wl bl hw0 hw1 hl0 hl1, h24, ← hb2]
  rfl

end Cert.KernelIdeal

end
-- ==== Proof.KernelIdeal.Inputs.lean ====
/- What the recurrence's points read, as entries of the arrays. -/
module

public import proofs.«01_k».proof.Proof.KernelIdeal.Recur
public import Idealize.ShloMosaic.Lib.Pipeline.ValueKit.Geometry
public import Idealize.ShloMosaic.Lib.Pipeline.ValueKit.Point

@[expose] public section

set_option maxRecDepth 16384

noncomputable section

namespace Cert.KernelIdeal

open Idealize.ShloMosaic Idealize.ShloMosaic.TcCoe Idealize.ShloMosaic.Pipeline
open Cert.KernelIdeal.Gen
open Cert.Math (Mat mulL next wmul cheb sums layer)

variable (V : Dev nD → Valuation τ sig (Elt Ideal)) (c : Dev nD)

theorem index_0 : ∀ t : Fin cfg1.N, win1_0.index t = ![0, (grid1.coords t 1).val] := by decide +kernel
theorem index_1 : ∀ t : Fin cfg1.N, win1_1.index t = ![0, 0] := by decide +kernel
theorem index_2 : ∀ t : Fin cfg1.N, win1_2.index t = ![0, 0] := by decide +kernel
theorem index_3 : ∀ t : Fin cfg1.N, win1_3.index t = ![(grid1.coords t 0).val, 0, 0, 0] := by decide +kernel
theorem index_4 : ∀ t : Fin cfg1.N, win1_4.index t = ![(grid1.coords t 0).val, 0, 0] := by decide +kernel
theorem index_5 : ∀ t : Fin cfg1.N, win1_5.index t = ![0, 0] := by decide +kernel
theorem index_6 : ∀ t : Fin cfg1.N, win1_6.index t = ![0, 0] := by decide +kernel
theorem step_p0 : ∀ s : Fin 11, (grid1.coords (p0 s) 0).val = s.val := by decide +kernel

theorem ins_L (t : Fin cfg1.N) : (ins V c t).L = colsOf (fun m n => V c (Proc.devRef .tc main_call0_v137_0) (ix2 m n)) (grid1.coords t) := by
  funext y
  show V c (Proc.devRef .tc main_call0_v137_0) (((cfg1.win 0).blk t).view.emb y) = V c (Proc.devRef .tc main_call0_v137_0) _
  refine congrArg (V c (Proc.devRef .tc main_call0_v137_0)) ?_
  funext a
  apply Fin.ext
  blk_simp [index_0]
  fin_cases a
  · show 0 * 4096 + (y 0).val = (y 0).val; omega
  · show (grid1.coords t 1).val * 2048 + (y 1).val = 2048 * (grid1.coords t 1).val + (y 1).val; omega

theorem ins_x (t : Fin cfg1.N) : (ins V c t).x = V c (Proc.devRef .tc main_call0_v136) := by
  funext y
  show V c (Proc.devRef .tc main_call0_v136) (((cfg1.win 1).blk t).view.emb y) = V c (Proc.devRef .tc main_call0_v136) _
  refine congrArg (V c (Proc.devRef .tc main_call0_v136)) ?_
  funext a
  apply Fin.ext
  blk_simp [index_1]
  fin_cases a
  · show 0 * 80 + (y 0).val = (y 0).val; omega
  · show 0 * 4096 + (y 1).val = (y 1).val; omega

theorem ins_y (t : Fin cfg1.N) : (ins V c t).y = V c (Proc.devRef .tc main_call0_v137_1) := by
  funext y
  show V c (Proc.devRef .tc main_call0_v137_1) (((cfg1.win 2).blk t).view.emb y) = V c (Proc.devRef .tc main_call0_v137_1) _
  refine congrArg (V c (Proc.devRef .tc main_call0_v137_1)) ?_
  funext a
  apply Fin.ext
  blk_simp [index_2]
  fin_cases a
  · show 0 * 80 + (y 0).val = (y 0).val; omega
  · show 0 * 4096 + (y 1).val = (y 1).val; omega

theorem ins_wl (t : Fin cfg1.N) : (ins V c t).wl = V c (Proc.devRef .tc main_call0_v139) := by
  funext y
  show V c (Proc.devRef .tc main_call0_v139) (((cfg1.win 5).blk t).view.emb y) = V c (Proc.devRef .tc main_call0_v139) _
  refine congrArg (V c (Proc.devRef .tc main_call0_v139)) ?_
  funext a
  apply Fin.ext
  blk_simp [index_5]
  fin_cases a
  · show 0 * 80 + (y 0).val = (y 0).val; omega
  · show 0 * 80 + (y 1).val = (y 1).val; omega

theorem ins_bl (t : Fin cfg1.N) : (ins V c t).bl = V c (Proc.devRef .tc main_call0_v39) := by
  funext y
  show V c (Proc.devRef .tc main_call0_v39) (((cfg1.win 6).blk t).view.emb y) = V c (Proc.devRef .tc main_call0_v39) _
  refine congrArg (V c (Proc.devRef .tc main_call0_v39)) ?_
  funext a
  apply Fin.ext
  blk_simp [index_6]
  fin_cases a
  · show 0 * 80 + (y 0).val = (y 0).val; omega
  · show 0 * 1 + (y 1).val = (y 1).val; omega

theorem ins_w (s : Fin 11) (k : Fin 2) (r l : Fin 80) :
    (ins V c (p0 s)).w (ix4 (0 : Fin 1) k r l) = V c (Proc.devRef .tc main_call0_v122) (ix4 s k r l) := by
  show V c (Proc.devRef .tc main_call0_v122) (((cfg1.win 3).blk (p0 s)).view.emb (ix4 (0 : Fin 1) k r l)) = V c (Proc.devRef .tc main_call0_v122) _
  refine congrArg (V c (Proc.devRef .tc main_call0_v122)) ?_
  funext a
  apply Fin.ext
  blk_simp [index_3, step_p0]
  fin_cases a
  · show s.val * 1 + 0 = s.val; omega
  · show 0 * 2 + k.val = k.val; omega
  · show 0 * 80 + r.val = r.val; omega
  · show 0 * 80 + l.val = l.val; omega

theorem b_at (s : Fin 11) (r : Fin 80) : bAt V c s r = V c (Proc.devRef .tc main_call0_v134) (ix3 s r (0 : Fin 1)) := by
  show V c (Proc.devRef .tc main_call0_v134) (((cfg1.win 4).blk (p0 s)).view.emb (ix3 (0 : Fin 1) r (0 : Fin 1))) = V c (Proc.devRef .tc main_call0_v134) _
  refine congrArg (V c (Proc.devRef .tc main_call0_v134)) ?_
  funext a
  apply Fin.ext
  blk_simp [index_4, step_p0]
  fin_cases a
  · show s.val * 1 + 0 = s.val; omega
  · show 0 * 80 + r.val = r.val; omega
  · show 0 * 1 + 0 = 0; omega

theorem w0_at (s : Fin 11) (r l : Fin 80) : w0At V c s r l = V c (Proc.devRef .tc main_call0_v122) (ix4 s (0 : Fin 2) r l) := by
  refine Eq.trans ?_ (ins_w V c s 0 r l)
  show (ins V c (p0 s)).w _ = (ins V c (p0 s)).w _
  refine congrArg _ ?_
  funext a
  apply Fin.ext
  fin_cases a
  · rfl
  · rfl
  · show 0 + 1 * r.val = r.val; omega
  · show 0 + 1 * l.val = l.val; omega

theorem w1_at (s : Fin 11) (r l : Fin 80) : w1At V c s r l = V c (Proc.devRef .tc main_call0_v122) (ix4 s (1 : Fin 2) r l) := by
  refine Eq.trans ?_ (ins_w V c s 1 r l)
  show (ins V c (p0 s)).w _ = (ins V c (p0 s)).w _
  refine congrArg _ ?_
  funext a
  apply Fin.ext
  fin_cases a
  · rfl
  · rfl
  · show 0 + 1 * r.val = r.val; omega
  · show 0 + 1 * l.val = l.val; omega

end Cert.KernelIdeal

end
-- ==== Proof.KernelIdeal.Ends.lean ====
/- What the first and the last region leave in their outputs, entry by entry, and the recurrence's output. -/
module

public import proofs.«01_k».proof.Proof.KernelIdeal.Run
public import proofs.«01_k».proof.Proof.KernelIdeal.Inputs
public import Idealize.ShloMosaic.Lib.Pointwise

@[expose] public section

set_option maxRecDepth 16384

noncomputable section

namespace Cert.KernelIdeal

open Idealize.ShloMosaic Idealize.ShloMosaic.TcCoe Idealize.ShloMosaic.Pipeline
open Cert.KernelIdeal.Gen
open Cert.Math (Mat mulL next wmul cheb sums layer lsm)

variable (V : Dev nD → Valuation τ sig (Elt Ideal)) (c : Dev nD)

theorem index0_0 : ∀ t : Fin cfg0.N, win0_0.index t = ![0, (grid0.coords t 0).val] := by decide +kernel
theorem index0_1 : ∀ t : Fin cfg0.N, win0_1.index t = ![0, 0] := by decide +kernel
theorem index0_2 : ∀ t : Fin cfg0.N, win0_2.index t = ![0, (grid0.coords t 0).val] := by decide +kernel
theorem index0_3 : ∀ t : Fin cfg0.N, win0_3.index t = ![0, (grid0.coords t 0).val] := by decide +kernel
theorem index2_0 : ∀ t : Fin cfg2.N, win2_0.index t = ![0, 0] := by decide +kernel
theorem index2_1 : ∀ t : Fin cfg2.N, win2_1.index t = ![0, 0] := by decide +kernel
theorem index2_2 : ∀ t : Fin cfg2.N, win2_2.index t = ![0, 0] := by decide +kernel

/-- The column of the array that a column of a block is. -/
def colOf0 (i : grid0.Coords) (n : Fin 1024) : Fin 4096 := ⟨1024 * (i 0).val + n.val, by
  have h : (i 0).val < 4 := (i 0).isLt
  omega⟩

/-- The cast copy of the matrix holds the matrix. -/
theorem out0_2 : (ed0 V c).arrAt 2 cfg0.N = V c (Proc.devRef .tc main_arg1) := by
  refine (ed0 V c).arrAt_eq_of_covers 2 _ (by decide +kernel) fun t hf y => ?_
  blk_simp
  show V c (Proc.devRef .tc main_arg1) (((cfg0.win 0).blk t).view.emb y) = V c (Proc.devRef .tc main_arg1) (((cfg0.win 2).blk t).view.emb y)
  refine congrArg (V c (Proc.devRef .tc main_arg1)) ?_
  funext a
  apply Fin.ext
  blk_simp [index0_0, index0_2]

theorem pay2 (l : Vec Ideal S4096x1024 .f32) (x : Vec Ideal S80x4096 .f32) (r : Fin 80) (n : Fin 1024) :
    k0_pay2 (F := Ideal) l x (ix2 r n) = ∑ k : Fin 4096, x (ix2 r k) * l (ix2 k n) := by
  pointwise [k0_pay2, k0_pay1]

theorem blk0_0 (t : Fin cfg0.N) (k : Fin 4096) (n : Fin 1024) :
    blk0 V c 0 t (ix2 k n) = V c (Proc.devRef .tc main_arg1) (ix2 k (colOf0 (grid0.coords t) n)) := by
  show V c (Proc.devRef .tc main_arg1) (((cfg0.win 0).blk t).view.emb (ix2 k n)) = V c (Proc.devRef .tc main_arg1) _
  refine congrArg (V c (Proc.devRef .tc main_arg1)) ?_
  funext a
  apply Fin.ext
  blk_simp [index0_0]
  fin_cases a
  · show 0 * 4096 + k.val = k.val; omega
  · show (grid0.coords t 0).val * 1024 + n.val = 1024 * (grid0.coords t 0).val + n.val; omega

theorem blk0_1 (t : Fin cfg0.N) (r : Fin 80) (k : Fin 4096) :
    blk0 V c 1 t (ix2 r k) = V c (Proc.devRef .tc main_call0_v136) (ix2 r k) := by
  show V c (Proc.devRef .tc main_call0_v136) (((cfg0.win 1).blk t).view.emb (ix2 r k)) = V c (Proc.devRef .tc main_call0_v136) _
  refine congrArg (V c (Proc.devRef .tc main_call0_v136)) ?_
  funext a
  apply Fin.ext
  blk_simp [index0_1]
  fin_cases a
  · show 0 * 80 + r.val = r.val; omega
  · show 0 * 4096 + k.val = k.val; omega

theorem emb0_3 (t : Fin cfg0.N) (r : Fin 80) (n : Fin 1024) :
    ((cfg0.win 3).blk t).view.emb (ix2 r n) = ix2 r (colOf0 (grid0.coords t) n) := by
  funext a
  apply Fin.ext
  blk_simp [index0_3]
  fin_cases a
  · show 0 * 80 + r.val = r.val; omega
  · show (grid0.coords t 0).val * 1024 + n.val = 1024 * (grid0.coords t 0).val + n.val; omega

/-- The first product. -/
theorem out0_3 : (ed0 V c).arrAt 3 cfg0.N
    = arr (φ := .f32) (mulL (fun m n => V c (Proc.devRef .tc main_arg1) (ix2 m n)) (mat (V c (Proc.devRef .tc main_call0_v136)))) := by
  refine (ed0 V c).arrAt_eq_of_covers 3 _ (by decide +kernel) fun t hf y => ?_
  blk_simp
  show k0_pay2 (F := Ideal) (blk0 V c 0 t) (blk0 V c 1 t) y = _
  obtain ⟨r, n, rfl⟩ : ∃ (r : Fin 80) (n : Fin 1024), y = ix2 r n := ⟨y 0, y 1, by funext a; fin_cases a <;> rfl⟩
  rw [pay2, emb0_3]
  show _ = ∑ k : Fin 4096, (mat (V c (Proc.devRef .tc main_call0_v136)) r k : EReal)
    * (V c (Proc.devRef .tc main_arg1) (ix2 k (colOf0 (grid0.coords t) n)) : EReal)
  refine Finset.sum_congr rfl fun k _ => ?_
  rw [blk0_0, blk0_1]
  rfl

/-- The recurrence's output. -/
theorem out1_7 : (ed1 V c).arrAt 7 cfg1.N = final1 V c := by
  refine (ed1 V c).arrAt_eq_of_after_last 7 t21 (by decide +kernel) _ fun j => ?_
  blk_simp
  rfl

/-- The logits of the last kernel. -/
def logits (h : Vec Ideal S8x40960 .f32) (w : Vec Ideal S40960x10 .f32) (d : Vec Ideal S1x10 .f32) : Mat 8 10 := fun b k =>
  (∑ j : Fin 40960, h (ix2 b j) * w (ix2 j k)) + d (ix2 (0 : Fin 1) k)

theorem pay_out (h : Vec Ideal S8x40960 .f32) (w : Vec Ideal S40960x10 .f32) (d : Vec Ideal S1x10 .f32) (b : Fin 8) (k : Fin 10) :
    k2_pay1 (F := Ideal) h w d (ix2 b k)
      = logits h w d b k - (Finset.univ.fold max ⊥ (logits h w d b)
          + Ideal.log (∑ i, Ideal.exp (logits h w d b i - Finset.univ.fold max ⊥ (logits h w d b)))) := by
  rw [← Cert.Math.bot_literal]
  pointwise [k2_pay1]
  rfl

theorem blk2_0 (t : Fin cfg2.N) : blk2 V c 0 t = V c (Proc.devRef .tc main_call0_v143) := by
  funext y
  show V c (Proc.devRef .tc main_call0_v143) (((cfg2.win 0).blk t).view.emb y) = V c (Proc.devRef .tc main_call0_v143) _
  refine congrArg (V c (Proc.devRef .tc main_call0_v143)) ?_
  funext a
  apply Fin.ext
  blk_simp [index2_0]
  fin_cases a
  · show 0 * 8 + (y 0).val = (y 0).val; omega
  · show 0 * 40960 + (y 1).val = (y 1).val; omega

theorem blk2_1 (t : Fin cfg2.N) : blk2 V c 1 t = V c (Proc.devRef .tc main_arg8) := by
  funext y
  show V c (Proc.devRef .tc main_arg8) (((cfg2.win 1).blk t).view.emb y) = V c (Proc.devRef .tc main_arg8) _
  refine congrArg (V c (Proc.devRef .tc main_arg8)) ?_
  funext a
  apply Fin.ext
  blk_simp [index2_1]
  fin_cases a
  · show 0 * 40960 + (y 0).val = (y 0).val; omega
  · show 0 * 10 + (y 1).val = (y 1).val; omega

theorem blk2_2 (t : Fin cfg2.N) : blk2 V c 2 t = V c (Proc.devRef .tc main_call0_v144) := by
  funext y
  show V c (Proc.devRef .tc main_call0_v144) (((cfg2.win 2).blk t).view.emb y) = V c (Proc.devRef .tc main_call0_v144) _
  refine congrArg (V c (Proc.devRef .tc main_call0_v144)) ?_
  funext a
  apply Fin.ext
  blk_simp [index2_2]
  fin_cases a
  · show 0 * 1 + (y 0).val = (y 0).val; omega
  · show 0 * 10 + (y 1).val = (y 1).val; omega

/-- The last region's output. -/
theorem out2_3 : (ed2 V c).arrAt 3 cfg2.N
    = k2_pay1 (F := Ideal) (V c (Proc.devRef .tc main_call0_v143)) (V c (Proc.devRef .tc main_arg8)) (V c (Proc.devRef .tc main_call0_v144)) := by
  refine (ed2 V c).arrAt_eq_of_after_last 3 ⟨0, by decide⟩ (by decide +kernel) _ fun j => ?_
  blk_simp
  show k2_pay1 (F := Ideal) (blk2 V c 0 ⟨0, by decide⟩) (blk2 V c 1 ⟨0, by decide⟩) (blk2 V c 2 ⟨0, by decide⟩) j = _
  rw [blk2_0, blk2_1, blk2_2]

end Cert.KernelIdeal
-- ==== Proof.KernelIdeal.Host.lean ====
/- What the host computes for the recurrence, entry by entry. -/
module

public import proofs.«01_k».proof.Proof.Gen.KernelIdeal.Regions
public import proofs.«01_k».proof.Proof.Math
public import Idealize.ShloMosaic.Lib.Pointwise
public import Idealize.ShloMosaic.Lib.StableHlo.ReadAt

@[expose] public section

set_option maxRecDepth 16384

noncomputable section

namespace Cert.KernelIdeal

open Idealize.ShloMosaic Idealize.ShloMosaic.TcCoe
open Cert.KernelIdeal.Gen

variable (U : Valuation τ sig (Elt Ideal))

/-- The entry of the identity matrix, as the host computes it. -/
theorem delta (a b : ℕ) (ha : a < 80) (hb : b < 80) :
    FloatOps.uitofp (F := Ideal) .f32 (IntOp.cmpi CmpIPredicate.eq (IntOp.addi (BitVec.ofNat 32 a) 0#32) (BitVec.ofNat 32 b))
      = if a = b then (1 : EReal) else 0 := by
  have h : IntOp.cmpi CmpIPredicate.eq (IntOp.addi (BitVec.ofNat 32 a) 0#32) (BitVec.ofNat 32 b) = if a = b then 1#1 else 0#1 := by
    have e : BitVec.ofNat 32 a = BitVec.ofNat 32 b ↔ a = b := by
      rw [← BitVec.toNat_inj, BitVec.toNat_ofNat, BitVec.toNat_ofNat]; omega
    by_cases hab : a = b
    · simp [IntOp.cmpi, IntOp.addi, hab]
    · have hne : BitVec.ofNat 32 a ≠ BitVec.ofNat 32 b := fun h => hab (e.1 h)
      simp [IntOp.cmpi, IntOp.addi, hab, beq_eq_false_iff_ne.2 hne]
  rw [h]
  show ((BitVec.toNat (if a = b then 1#1 else 0#1) : ℝ) : EReal) = _
  split <;> norm_num

theorem zero_word : (FloatOps.sitofp (F := Ideal) .f32 0#32 : EReal) = 0 := by
  show (((0#32 : BitVec 32).toInt : ℝ) : EReal) = 0
  norm_num

set_option maxHeartbeats 2000000 in
theorem host_x (r : Fin 80) (n : Fin 4096) : StableHlo.after hostOps0 U (Proc.devRef .tc main_call0_v136) (ix2 r n)
    = if h : r.val < 8 then U (Proc.devRef .tc main_arg0) (ix3 (⟨r.val, h⟩ : Fin 8) n (0 : Fin 1)) else (0 : EReal) := by
  after_reads_at
  rw [zero_word]

/-- The first layer's weights as the kernel lays them out. -/
def wt1 (k : Fin 5) : Cert.Math.Mat 80 80 := fun r l =>
  if l.val < 8 then (if l.val = r.val / 10 then 1 else 0) * U (Proc.devRef .tc main_arg2) (ix3 k (0 : Fin 1) (⟨r.val % 10, by omega⟩ : Fin 10)) else 0
/-- The second layer's. -/
def wt2 (k : Fin 5) : Cert.Math.Mat 80 80 := fun r l =>
  (if l.val / 10 = r.val / 10 then 1 else 0) * U (Proc.devRef .tc main_arg4) (ix3 k (⟨l.val % 10, by omega⟩ : Fin 10) (⟨r.val % 10, by omega⟩ : Fin 10))
/-- The third layer's. -/
def wt3 (k : Fin 5) : Cert.Math.Mat 80 80 := fun r l =>
  (if l.val / 10 = r.val / 10 then 1 else 0) * U (Proc.devRef .tc main_arg6) (ix3 k (⟨l.val % 10, by omega⟩ : Fin 10) (⟨r.val % 10, by omega⟩ : Fin 10))

theorem eq_wt1 (k : Fin 5) (r l : Fin 80) (h10 : r.val % 10 < 10) :
    (if _h : l.val < 8 then FloatOps.uitofp (F := Ideal) .f32 (IntOp.cmpi CmpIPredicate.eq (IntOp.addi (BitVec.ofNat 32 l.val) 0#32) (BitVec.ofNat 32 (r.val / 10)))
        * U (Proc.devRef .tc main_arg2) (ix3 k (0 : Fin 1) (⟨r.val % 10, h10⟩ : Fin 10)) else FloatOps.sitofp (F := Ideal) .f32 0#32)
      = wt1 U k r l := by
  rw [delta _ _ l.isLt (by omega), zero_word]; rfl

theorem eq_wt2 (k : Fin 5) (r l : Fin 80) (h10 : r.val % 10 < 10) (h10' : l.val % 10 < 10) :
    FloatOps.uitofp (F := Ideal) .f32 (IntOp.cmpi CmpIPredicate.eq (IntOp.addi (BitVec.ofNat 32 (l.val / 10)) 0#32) (BitVec.ofNat 32 (r.val / 10)))
        * U (Proc.devRef .tc main_arg4) (ix3 k (⟨l.val % 10, h10'⟩ : Fin 10) (⟨r.val % 10, h10⟩ : Fin 10)) = wt2 U k r l := by
  rw [delta _ _ (by omega) (by omega)]; rfl

theorem eq_wt3 (k : Fin 5) (r l : Fin 80) (h10 : r.val % 10 < 10) (h10' : l.val % 10 < 10) :
    FloatOps.uitofp (F := Ideal) .f32 (IntOp.cmpi CmpIPredicate.eq (IntOp.addi (BitVec.ofNat 32 (l.val / 10)) 0#32) (BitVec.ofNat 32 (r.val / 10)))
        * U (Proc.devRef .tc main_arg6) (ix3 k (⟨l.val % 10, h10'⟩ : Fin 10) (⟨r.val % 10, h10⟩ : Fin 10)) = wt3 U k r l := by
  rw [delta _ _ (by omega) (by omega)]; rfl

set_option maxHeartbeats 8000000 in
/-- The steps' weights before they are stacked. -/
theorem slots (r l : Fin 80) :
    (StableHlo.upto hostOps0 U 135 (Proc.devRef .tc main_call0_v111) (ix4 (0 : Fin 1) (0 : Fin 2) r l) = wt1 U 1 r l
      ∧ StableHlo.upto hostOps0 U 135 (Proc.devRef .tc main_call0_v111) (ix4 (0 : Fin 1) (1 : Fin 2) r l) = wt1 U 0 r l
      ∧ StableHlo.upto hostOps0 U 135 (Proc.devRef .tc main_call0_v112) (ix4 (0 : Fin 1) (0 : Fin 2) r l) = wt1 U 2 r l
      ∧ StableHlo.upto hostOps0 U 135 (Proc.devRef .tc main_call0_v113) (ix4 (0 : Fin 1) (0 : Fin 2) r l) = wt1 U 3 r l
      ∧ StableHlo.upto hostOps0 U 135 (Proc.devRef .tc main_call0_v114) (ix4 (0 : Fin 1) (0 : Fin 2) r l) = wt1 U 4 r l)
    ∧ (StableHlo.upto hostOps0 U 135 (Proc.devRef .tc main_call0_v114) (ix4 (0 : Fin 1) (1 : Fin 2) r l) = wt2 U 0 r l
      ∧ StableHlo.upto hostOps0 U 135 (Proc.devRef .tc main_call0_v115) (ix4 (0 : Fin 1) (0 : Fin 2) r l) = wt2 U 1 r l
      ∧ StableHlo.upto hostOps0 U 135 (Proc.devRef .tc main_call0_v116) (ix4 (0 : Fin 1) (0 : Fin 2) r l) = wt2 U 2 r l
      ∧ StableHlo.upto hostOps0 U 135 (Proc.devRef .tc main_call0_v117) (ix4 (0 : Fin 1) (0 : Fin 2) r l) = wt2 U 3 r l
      ∧ StableHlo.upto hostOps0 U 135 (Proc.devRef .tc main_call0_v118) (ix4 (0 : Fin 1) (0 : Fin 2) r l) = wt2 U 4 r l)
    ∧ (StableHlo.upto hostOps0 U 135 (Proc.devRef .tc main_call0_v118) (ix4 (0 : Fin 1) (1 : Fin 2) r l) = wt3 U 0 r l
      ∧ StableHlo.upto hostOps0 U 135 (Proc.devRef .tc main_call0_v119) (ix4 (0 : Fin 1) (0 : Fin 2) r l) = wt3 U 1 r l
      ∧ StableHlo.upto hostOps0 U 135 (Proc.devRef .tc main_call0_v120) (ix4 (0 : Fin 1) (0 : Fin 2) r l) = wt3 U 2 r l
      ∧ StableHlo.upto hostOps0 U 135 (Proc.devRef .tc main_call0_v121) (ix4 (0 : Fin 1) (0 : Fin 2) r l) = wt3 U 3 r l) := by
  refine ⟨⟨?_, ?_, ?_, ?_, ?_⟩, ⟨?_, ?_, ?_, ?_, ?_⟩, ?_, ?_, ?_, ?_⟩
  all_goals after_reads_at
  all_goals after_reads_at
  exacts [eq_wt1 U 1 r l (by omega), eq_wt1 U 0 r l (by omega), eq_wt1 U 2 r l (by omega), eq_wt1 U 3 r l (by omega), eq_wt1 U 4 r l (by omega),
    eq_wt2 U 0 r l (by omega) (by omega), eq_wt2 U 1 r l (by omega) (by omega), eq_wt2 U 2 r l (by omega) (by omega), eq_wt2 U 3 r l (by omega) (by omega), eq_wt2 U 4 r l (by omega) (by omega),
    eq_wt3 U 0 r l (by omega) (by omega), eq_wt3 U 1 r l (by omega) (by omega), eq_wt3 U 2 r l (by omega) (by omega), eq_wt3 U 3 r l (by omega) (by omega)]

set_option maxHeartbeats 8000000 in
/-- The steps' weights. -/
theorem host_w :
    ((∀ r l, StableHlo.after hostOps0 U (Proc.devRef .tc main_call0_v122) (ix4 (0 : Fin 11) (0 : Fin 2) r l) = wt1 U 1 r l)
      ∧ (∀ r l, StableHlo.after hostOps0 U (Proc.devRef .tc main_call0_v122) (ix4 (0 : Fin 11) (1 : Fin 2) r l) = wt1 U 0 r l)
      ∧ (∀ r l, StableHlo.after hostOps0 U (Proc.devRef .tc main_call0_v122) (ix4 (1 : Fin 11) (0 : Fin 2) r l) = wt1 U 2 r l)
      ∧ (∀ r l, StableHlo.after hostOps0 U (Proc.devRef .tc main_call0_v122) (ix4 (2 : Fin 11) (0 : Fin 2) r l) = wt1 U 3 r l)
      ∧ (∀ r l, StableHlo.after hostOps0 U (Proc.devRef .tc main_call0_v122) (ix4 (3 : Fin 11) (0 : Fin 2) r l) = wt1 U 4 r l))
    ∧ ((∀ r l, StableHlo.after hostOps0 U (Proc.devRef .tc main_call0_v122) (ix4 (3 : Fin 11) (1 : Fin 2) r l) = wt2 U 0 r l)
      ∧ (∀ r l, StableHlo.after hostOps0 U (Proc.devRef .tc main_call0_v122) (ix4 (4 : Fin 11) (0 : Fin 2) r l) = wt2 U 1 r l)
      ∧ (∀ r l, StableHlo.after hostOps0 U (Proc.devRef .tc main_call0_v122) (ix4 (5 : Fin 11) (0 : Fin 2) r l) = wt2 U 2 r l)
      ∧ (∀ r l, StableHlo.after hostOps0 U (Proc.devRef .tc main_call0_v122) (ix4 (6 : Fin 11) (0 : Fin 2) r l) = wt2 U 3 r l)
      ∧ (∀ r l, StableHlo.after hostOps0 U (Proc.devRef .tc main_call0_v122) (ix4 (7 : Fin 11) (0 : Fin 2) r l) = wt2 U 4 r l))
    ∧ (∀ r l, StableHlo.after hostOps0 U (Proc.devRef .tc main_call0_v122) (ix4 (7 : Fin 11) (1 : Fin 2) r l) = wt3 U 0 r l)
      ∧ (∀ r l, StableHlo.after hostOps0 U (Proc.devRef .tc main_call0_v122) (ix4 (8 : Fin 11) (0 : Fin 2) r l) = wt3 U 1 r l)
      ∧ (∀ r l, StableHlo.after hostOps0 U (Proc.devRef .tc main_call0_v122) (ix4 (9 : Fin 11) (0 : Fin 2) r l) = wt3 U 2 r l)
      ∧ (∀ r l, StableHlo.after hostOps0 U (Proc.devRef .tc main_call0_v122) (ix4 (10 : Fin 11) (0 : Fin 2) r l) = wt3 U 3 r l) := by
  refine ⟨⟨?_, ?_, ?_, ?_, ?_⟩, ⟨?_, ?_, ?_, ?_, ?_⟩, ?_, ?_, ?_, ?_⟩
  all_goals
    intro r l
    after_reads_at
  exacts [(slots U r l).1.1, (slots U r l).1.2.1, (slots U r l).1.2.2.1, (slots U r l).1.2.2.2.1, (slots U r l).1.2.2.2.2,
    (slots U r l).2.1.1, (slots U r l).2.1.2.1, (slots U r l).2.1.2.2.1, (slots U r l).2.1.2.2.2.1, (slots U r l).2.1.2.2.2.2,
    (slots U r l).2.2.1, (slots U r l).2.2.2.1, (slots U r l).2.2.2.2.1, (slots U r l).2.2.2.2.2]

set_option maxHeartbeats 4000000 in
/-- The first two layers' biases before they are stacked. -/
theorem slots_b (r : Fin 80) :
    StableHlo.upto hostOps0 U 147 (Proc.devRef .tc main_call0_v126) (ix3 (0 : Fin 1) r (0 : Fin 1))
      = U (Proc.devRef .tc main_arg3) (ix1 (⟨r.val % 10, by omega⟩ : Fin 10))
    ∧ StableHlo.upto hostOps0 U 147 (Proc.devRef .tc main_call0_v130) (ix3 (0 : Fin 1) r (0 : Fin 1))
      = U (Proc.devRef .tc main_arg5) (ix1 (⟨r.val % 10, by omega⟩ : Fin 10)) := by
  constructor <;> after_reads_at

set_option maxHeartbeats 4000000 in
/-- The first two layers' biases. -/
theorem host_b (r : Fin 80) :
    StableHlo.after hostOps0 U (Proc.devRef .tc main_call0_v134) (ix3 (3 : Fin 11) r (0 : Fin 1))
      = U (Proc.devRef .tc main_arg3) (ix1 (⟨r.val % 10, by omega⟩ : Fin 10))
    ∧ StableHlo.after hostOps0 U (Proc.devRef .tc main_call0_v134) (ix3 (7 : Fin 11) r (0 : Fin 1))
      = U (Proc.devRef .tc main_arg5) (ix1 (⟨r.val % 10, by omega⟩ : Fin 10)) := by
  constructor <;> after_reads_at
  exacts [(slots_b U r).1, (slots_b U r).2]

set_option maxHeartbeats 2000000 in
theorem host_bl (r : Fin 80) : StableHlo.after hostOps0 U (Proc.devRef .tc main_call0_v39) (ix2 r (0 : Fin 1)) = U (Proc.devRef .tc main_arg7) (ix1 (⟨r.val % 10, by omega⟩ : Fin 10)) := by
  after_reads_at

set_option maxHeartbeats 2000000 in
theorem host_w3 (k : Fin 5) (r l : Fin 80) : StableHlo.after hostOps0 U (Proc.devRef .tc main_call0_v27) (ix3 k r l) = wt3 U k r l := by
  after_reads_at
  rw [delta _ _ (by omega) (by omega)]
  rfl

theorem host_wl (W : Valuation τ sig (Elt Ideal)) (r l : Fin 80) : StableHlo.after hostOps1 W (Proc.devRef .tc main_call0_v139) (ix2 r l)
    = W (Proc.devRef .tc main_call0_v27) (ix3 (4 : Fin 5) r l) := by
  after_reads_at

theorem host_ht (W : Valuation τ sig (Elt Ideal)) (b : Fin 8) (j : Fin 40960) : StableHlo.after hostOps2 W (Proc.devRef .tc main_call0_v143) (ix2 b j)
    = W (Proc.devRef .tc main_call0_v140) (ix2 (Cert.Math.row b ⟨j.val % 10, by omega⟩) (⟨j.val / 10, by omega⟩ : Fin 4096)) := by
  after_reads_at
  rfl

theorem host_fb (W : Valuation τ sig (Elt Ideal)) (k : Fin 10) : StableHlo.after hostOps2 W (Proc.devRef .tc main_call0_v144) (ix2 (0 : Fin 1) k)
    = W (Proc.devRef .tc main_arg9) (ix1 k) := by
  after_reads_at

end Cert.KernelIdeal

end
-- ==== Proof.KernelIdeal.Final.lean ====
/- The kernel's result as the problem's mathematics: the program's last contents, read back to its arguments. -/
module

public import proofs.«01_k».proof.Proof.KernelIdeal.Ends
public import proofs.«01_k».proof.Proof.KernelIdeal.Host

@[expose] public section

set_option maxRecDepth 16384

noncomputable section

namespace Cert.KernelIdeal

open Idealize.ShloMosaic Idealize.ShloMosaic.TcCoe
open Cert.KernelIdeal.Gen
open Cert.Math (Mat Feat mulL layer conv row layer_rows sum_first sum_diag lsm Real)

/-! ## The recurrence's output -/

section Recurrence

variable (A : Valuation τ sig (Elt Ideal))

/-- The graph's matrix. -/
def kL : Mat 4096 4096 := fun n m => A (Proc.devRef .tc main_arg1) (ix2 n m)
/-- The input, one row per graph. -/
def kx : Mat 80 4096 := fun r n => StableHlo.after hostOps0 A (Proc.devRef .tc main_call0_v136) (ix2 r n)
/-- The biases, row by row. -/
def kb1 : Fin 80 → EReal := fun r => A (Proc.devRef .tc main_arg3) (ix1 (⟨r.val % 10, by omega⟩ : Fin 10))
def kb2 : Fin 80 → EReal := fun r => A (Proc.devRef .tc main_arg5) (ix1 (⟨r.val % 10, by omega⟩ : Fin 10))
def kb3 : Fin 80 → EReal := fun r => A (Proc.devRef .tc main_arg7) (ix1 (⟨r.val % 10, by omega⟩ : Fin 10))

/-- The three layers. -/
def kh : Mat 80 4096 := layer (kL A) (wt3 A) (kb3 A) (layer (kL A) (wt2 A) (kb2 A) (layer (kL A) (wt1 A) (kb1 A) (kx A)))

variable (V : Dev nD → Valuation τ sig (Elt Ideal)) (c : Dev nD)

theorem final_reads
    (hL : ∀ n m : Fin 4096, (V c (Proc.devRef .tc main_call0_v137_0) (ix2 n m) : EReal) = A (Proc.devRef .tc main_arg1) (ix2 n m))
    (hx : ∀ (r : Fin 80) (n : Fin 4096), (V c (Proc.devRef .tc main_call0_v136) (ix2 r n) : EReal) = kx A r n)
    (hy : ∀ (r : Fin 80) (n : Fin 4096), (V c (Proc.devRef .tc main_call0_v137_1) (ix2 r n) : EReal) = mulL (kL A) (kx A) r n)
    (hw : V c (Proc.devRef .tc main_call0_v122) = StableHlo.after hostOps0 A (Proc.devRef .tc main_call0_v122))
    (hb : V c (Proc.devRef .tc main_call0_v134) = StableHlo.after hostOps0 A (Proc.devRef .tc main_call0_v134))
    (hwl : ∀ r l : Fin 80, (V c (Proc.devRef .tc main_call0_v139) (ix2 r l) : EReal) = wt3 A 4 r l)
    (hbl : ∀ r : Fin 80, (V c (Proc.devRef .tc main_call0_v39) (ix2 r (0 : Fin 1)) : EReal) = kb3 A r) :
    final1 V c = arr (φ := .f32) (kh A) := by
  have hLm : (fun n m => V c (Proc.devRef .tc main_call0_v137_0) (ix2 n m)) = kL A := by
    funext n m; exact hL n m
  have w0 : ∀ (s : Fin 11) (g : Mat 80 80), (∀ r l, StableHlo.after hostOps0 A (Proc.devRef .tc main_call0_v122) (ix4 s (0 : Fin 2) r l) = g r l)
      → w0At V c s = g := fun s g h => by
    funext r l; rw [w0_at, hw]; exact h r l
  have w1 : ∀ (s : Fin 11) (g : Mat 80 80), (∀ r l, StableHlo.after hostOps0 A (Proc.devRef .tc main_call0_v122) (ix4 s (1 : Fin 2) r l) = g r l)
      → w1At V c s = g := fun s g h => by
    funext r l; rw [w1_at, hw]; exact h r l
  have b0 : ∀ (s : Fin 11) (g : Fin 80 → EReal), (∀ r, StableHlo.after hostOps0 A (Proc.devRef .tc main_call0_v134) (ix3 s r (0 : Fin 1)) = g r)
      → bAt V c s = g := fun s g h => by
    funext r; rw [b_at, hb]; exact h r
  have H := host_w A
  exact final_eq V c (kL A) (fun t => by rw [ins_L, hLm]) (kx A) ![wt1 A, wt2 A, wt3 A] ![kb1 A, kb2 A, kb3 A]
    (V c (Proc.devRef .tc main_call0_v139)) (V c (Proc.devRef .tc main_call0_v39))
    (by rw [ins_x]; funext r n; exact hx r n) (by rw [ins_y]; funext r n; exact hy r n)
    (w1 0 (wt1 A 0) H.1.2.1) (w0 0 (wt1 A 1) H.1.1) (w0 1 (wt1 A 2) H.1.2.2.1) (w0 2 (wt1 A 3) H.1.2.2.2.1) (w0 3 (wt1 A 4) H.1.2.2.2.2)
    (w1 3 (wt2 A 0) H.2.1.1) (w0 4 (wt2 A 1) H.2.1.2.1) (w0 5 (wt2 A 2) H.2.1.2.2.1) (w0 6 (wt2 A 3) H.2.1.2.2.2.1) (w0 7 (wt2 A 4) H.2.1.2.2.2.2)
    (w1 7 (wt3 A 0) H.2.2.1) (w0 8 (wt3 A 1) H.2.2.2.1) (w0 9 (wt3 A 2) H.2.2.2.2.1) (w0 10 (wt3 A 3) H.2.2.2.2.2)
    (b0 3 (kb1 A) fun r => (host_b A r).1) (b0 7 (kb2 A) fun r => (host_b A r).2)
    (ins_wl V c _) (ins_wl V c _) (ins_bl V c _) (ins_bl V c _)
    (by funext r l; exact hwl r l) (by funext r; exact hbl r)

end Recurrence

/-! ## The layers in the problem's layout -/

section Layers

variable (A : Valuation τ sig (Elt Ideal))

/-- The layers' outputs, graph by graph. -/
def kH1 : Feat 10 := conv (kL A) (fun k g f => A (Proc.devRef .tc main_arg2) (ix3 k (g : Fin 1) (f : Fin 10)))
  (fun f => A (Proc.devRef .tc main_arg3) (ix1 f)) (fun b n g => A (Proc.devRef .tc main_arg0) (ix3 b n (g : Fin 1)))
def kH2 : Feat 10 := conv (kL A) (fun k g f => A (Proc.devRef .tc main_arg4) (ix3 k (g : Fin 10) (f : Fin 10)))
  (fun f => A (Proc.devRef .tc main_arg5) (ix1 f)) (kH1 A)
def kH3 : Feat 10 := conv (kL A) (fun k g f => A (Proc.devRef .tc main_arg6) (ix3 k (g : Fin 10) (f : Fin 10)))
  (fun f => A (Proc.devRef .tc main_arg7) (ix1 f)) (kH2 A)

/-- The head's entries before the log-softmax. -/
def kZ : Mat 8 10 := fun b k =>
  (∑ j : Fin 40960, kH3 A b ⟨j.val / 10, by omega⟩ ⟨j.val % 10, by omega⟩ * A (Proc.devRef .tc main_arg8) (ix2 j k))
    + A (Proc.devRef .tc main_arg9) (ix1 k)

theorem row_mod (c : Fin 8) (f : Fin 10) (h : (row c f).val % 10 < 10) : (⟨(row c f).val % 10, h⟩ : Fin 10) = f :=
  Fin.ext (by show (c.val * 10 + f.val) % 10 = f.val; omega)
theorem row_div (c : Fin 8) (f : Fin 10) : (row c f).val / 10 = c.val := by show (c.val * 10 + f.val) / 10 = c.val; omega

theorem kh_row (hL : ∀ n m, kL A n m = kL A m n) (c : Fin 8) (f : Fin 10) (n : Fin 4096) : kh A (row c f) n = kH3 A c n f := by
  have h1 : ∀ c f n, layer (kL A) (wt1 A) (kb1 A) (kx A) (row c f) n = kH1 A c n f :=
    layer_rows (kL A) hL (fun b _ => b.castLE (by decide)) _ _ _ _ _ _
      (fun c i n => by
        obtain rfl : i = 0 := Subsingleton.elim _ _
        refine (host_x A _ n).trans ?_
        have h : (c.castLE (by decide : 8 ≤ 80)).val < 8 := c.isLt
        rw [dif_pos h]
        rfl)
      (fun k c f v => by
        rw [sum_first (wt1 A k) (fun f => A (Proc.devRef .tc main_arg2) (ix3 k (0 : Fin 1) f)) (fun c f r => by
          unfold wt1; rw [row_mod, row_div]) c f v]
        rw [Fin.sum_univ_one])
      (fun c f => by unfold kb1; rw [row_mod])
  have h2 : ∀ c f n, layer (kL A) (wt2 A) (kb2 A) (layer (kL A) (wt1 A) (kb1 A) (kx A)) (row c f) n = kH2 A c n f :=
    layer_rows (kL A) hL row _ _ _ _ _ _ h1
      (fun k c f v => sum_diag (wt2 A k) (fun i f => A (Proc.devRef .tc main_arg4) (ix3 k i f)) (fun c f b i => by
        unfold wt2; rw [row_mod, row_mod, row_div, row_div]; simp only [Fin.val_inj]) c f v)
      (fun c f => by unfold kb2; rw [row_mod])
  exact layer_rows (kL A) hL row _ _ _ _ _ _ h2
      (fun k c f v => sum_diag (wt3 A k) (fun i f => A (Proc.devRef .tc main_arg6) (ix3 k i f)) (fun c f b i => by
        unfold wt3; rw [row_mod, row_mod, row_div, row_div]; simp only [Fin.val_inj]) c f v)
      (fun c f => by unfold kb3; rw [row_mod]) c f n

end Layers

/-! ## The program's last contents -/

section Contents

variable (m : (ℓ : Loc nD τ sig) → Buf (Elt Ideal) ℓ) (c : Dev nD)

theorem x2_of (r : Ref sig .tc) (h : r ∉ ([main_call0_v137_0, main_call0_v137_1] : List (Ref sig .tc))) :
    X2 m c (Proc.devRef .tc r) = StableHlo.after hostOps0 (V0 m c) (Proc.devRef .tc r) :=
  (congrFun (V2_eq m c) _).symm.trans (V2_of m (outs m) c r h)

theorem x3_of (r : Ref sig .tc) (h1 : r ∉ hostOps1_W) : X3 m c (Proc.devRef .tc r) = X2 m c (Proc.devRef .tc r) :=
  StableHlo.after_of_writes_sub hostOps1 _ hostOps1_writes h1

theorem x2_L : X2 m c (Proc.devRef .tc main_call0_v137_0) = V1 m c (Proc.devRef .tc main_arg1) := by
  have h : (Proc.devRef .tc main_call0_v137_0 : DevRef τ sig) ≠ Proc.devRef .tc main_call0_v137_1 := StableHlo.devRef_ne_of_ne (by decide)
  unfold X2 upd0
  rw [Function.update_of_ne h, Function.update_self]
  exact out0_2 (V1 m) c

theorem x2_y : X2 m c (Proc.devRef .tc main_call0_v137_1)
    = arr (φ := .f32) (mulL (fun n k => V1 m c (Proc.devRef .tc main_arg1) (ix2 n k)) (mat (V1 m c (Proc.devRef .tc main_call0_v136)))) := by
  unfold X2 upd0
  rw [Function.update_self]
  exact out0_3 (V1 m) c

theorem x4_h : X4 m c (Proc.devRef .tc main_call0_v140) = arr (φ := .f32) (kh (V0 m c)) := by
  unfold X4 upd1
  rw [Function.update_self]
  refine (out1_7 (X3 m) c).trans (final_reads (V0 m c) (X3 m) c ?_ ?_ ?_ ?_ ?_ ?_ ?_)
  · intro n k
    rw [x3_of m c _ (by decide), x2_L, V1_of m c main_arg1 (by decide)]
  · intro r n
    rw [x3_of m c _ (by decide), x2_of m c _ (by decide)]
    rfl
  · intro r n
    rw [x3_of m c _ (by decide), x2_y, V1_of m c main_arg1 (by decide)]
    rfl
  · rw [x3_of m c _ (by decide), x2_of m c _ (by decide)]
  · rw [x3_of m c _ (by decide), x2_of m c _ (by decide)]
  · intro r l
    refine (host_wl (X2 m c) r l).trans ?_
    rw [x2_of m c _ (by decide)]
    exact host_w3 (V0 m c) 4 r l
  · intro r
    rw [x3_of m c _ (by decide), x2_of m c _ (by decide)]
    exact host_bl (V0 m c) r

theorem x5_of (r : Ref sig .tc) (h : r ∉ hostOps2_W) : X5 m c (Proc.devRef .tc r) = X4 m c (Proc.devRef .tc r) :=
  StableHlo.after_of_writes_sub hostOps2 _ hostOps2_writes h

/-- An argument before the last stretch of the host. -/
theorem x4_arg (r : Ref sig .tc) (h0 : r ∉ hostOps0_W) (h1 : r ∉ hostOps1_W)
    (h2 : r ∉ ([main_call0_v137_0, main_call0_v137_1] : List (Ref sig .tc))) (h4 : r ∉ ([main_call0_v140] : List (Ref sig .tc))) :
    X4 m c (Proc.devRef .tc r) = V0 m c (Proc.devRef .tc r) :=
  (congrFun (V4_eq m c) _).symm.trans ((V4_of m (outs m) c r h4).trans ((V3_of m (outs m) c r h1).trans
    ((V2_of m (outs m) c r h2).trans (V1_of m c r h0))))

theorem logits_eq (hL : ∀ n k, kL (V0 m c) n k = kL (V0 m c) k n) :
    logits (X5 m c (Proc.devRef .tc main_call0_v143)) (X5 m c (Proc.devRef .tc main_arg8)) (X5 m c (Proc.devRef .tc main_call0_v144))
      = kZ (V0 m c) := by
  funext b k
  unfold logits kZ
  have hd : X5 m c (Proc.devRef .tc main_call0_v144) (ix2 (0 : Fin 1) k) = V0 m c (Proc.devRef .tc main_arg9) (ix1 k) := by
    refine (host_fb (X4 m c) k).trans ?_
    rw [x4_arg m c main_arg9 (by decide) (by decide) (by decide) (by decide)]
  have hh : ∀ j : Fin 40960, X5 m c (Proc.devRef .tc main_call0_v143) (ix2 b j)
      = kH3 (V0 m c) b ⟨j.val / 10, by omega⟩ ⟨j.val % 10, by omega⟩ := fun j => by
    refine (host_ht (X4 m c) b j).trans ?_
    rw [x4_h]
    exact kh_row (V0 m c) hL b _ _
  rw [hd, x5_of m c main_arg8 (by decide), x4_arg m c main_arg8 (by decide) (by decide) (by decide) (by decide)]
  simp only [hh]

/-- The program's result, when the matrix is symmetric and the head's entries are real. -/
theorem result_entry (hL : ∀ n k, kL (V0 m c) n k = kL (V0 m c) k n) (hz : ∀ b k, Real (kZ (V0 m c) b k)) (b : Fin 8) (k : Fin 10) :
    X6 m c (Proc.devRef .tc main_v0) (ix2 b k) = lsm (kZ (V0 m c) b) k := by
  unfold X6 upd2
  rw [Function.update_self, out2_3, pay_out, logits_eq m c hL]
  exact Cert.Math.sub_add_real (Cert.Math.real_fold _ (hz b))

end Contents

end Cert.KernelIdeal

end
-- ==== Proof.Value.lean ====
/- The value claim: on a symmetric matrix and real arguments the kernel's result is the reference's. -/
module

public import proofs.«01_k».proof.Defs
public import proofs.«01_k».proof.Proof.Pre
public import proofs.«01_k».proof.Proof.Ref
public import proofs.«01_k».proof.Proof.KernelIdeal.Final

@[expose] public section

set_option maxRecDepth 16384

noncomputable section

namespace Cert.Proof

open Idealize.ShloMosaic Idealize.ShloMosaic.TcCoe Idealize.SL.Sem Idealize.ShloMosaic.StableHlo
open Cert.Math (Mat Feat conv Real real_conv real_two real_add real_mul real_sum)

/-- The head's entries of the two programs are the same of the same arguments. -/
theorem logits_agree (A : Valuation Cert.KernelIdeal.τ Cert.KernelIdeal.sig (Elt Ideal))
    (B : Valuation Cert.ReferenceIdeal.τ Cert.ReferenceIdeal.sig (Elt Ideal))
    (h0 : ∀ i : Cert.KernelIdeal.S8x4096x1.Idx, (B (Proc.devRef .tc Cert.ReferenceIdeal.main_arg0) i : EReal) = A (Proc.devRef .tc Cert.KernelIdeal.main_arg0) i)
    (h1 : ∀ i : Cert.KernelIdeal.S4096x4096.Idx, (B (Proc.devRef .tc Cert.ReferenceIdeal.main_arg1) i : EReal) = A (Proc.devRef .tc Cert.KernelIdeal.main_arg1) i)
    (h2 : ∀ i : Cert.KernelIdeal.S5x1x10.Idx, (B (Proc.devRef .tc Cert.ReferenceIdeal.main_arg2) i : EReal) = A (Proc.devRef .tc Cert.KernelIdeal.main_arg2) i)
    (h3 : ∀ i : Cert.KernelIdeal.S10.Idx, (B (Proc.devRef .tc Cert.ReferenceIdeal.main_arg3) i : EReal) = A (Proc.devRef .tc Cert.KernelIdeal.main_arg3) i)
    (h4 : ∀ i : Cert.KernelIdeal.S5x10x10.Idx, (B (Proc.devRef .tc Cert.ReferenceIdeal.main_arg4) i : EReal) = A (Proc.devRef .tc Cert.KernelIdeal.main_arg4) i)
    (h5 : ∀ i : Cert.KernelIdeal.S10.Idx, (B (Proc.devRef .tc Cert.ReferenceIdeal.main_arg5) i : EReal) = A (Proc.devRef .tc Cert.KernelIdeal.main_arg5) i)
    (h6 : ∀ i : Cert.KernelIdeal.S5x10x10.Idx, (B (Proc.devRef .tc Cert.ReferenceIdeal.main_arg6) i : EReal) = A (Proc.devRef .tc Cert.KernelIdeal.main_arg6) i)
    (h7 : ∀ i : Cert.KernelIdeal.S10.Idx, (B (Proc.devRef .tc Cert.ReferenceIdeal.main_arg7) i : EReal) = A (Proc.devRef .tc Cert.KernelIdeal.main_arg7) i)
    (h8 : ∀ i : Cert.KernelIdeal.S40960x10.Idx, (B (Proc.devRef .tc Cert.ReferenceIdeal.main_arg8) i : EReal) = A (Proc.devRef .tc Cert.KernelIdeal.main_arg8) i)
    (h9 : ∀ i : Cert.KernelIdeal.S10.Idx, (B (Proc.devRef .tc Cert.ReferenceIdeal.main_arg9) i : EReal) = A (Proc.devRef .tc Cert.KernelIdeal.main_arg9) i) :
    Cert.ReferenceIdeal.Value.rZ B = Cert.KernelIdeal.kZ A := by
  have e0 : Cert.ReferenceIdeal.Value.rX B = fun b n g => A (Proc.devRef .tc Cert.KernelIdeal.main_arg0) (ix3 b n g) := by
    funext b n g; exact h0 _
  have e1 : Cert.ReferenceIdeal.Value.rL B = Cert.KernelIdeal.kL A := by funext n m; exact h1 _
  have e2 : Cert.ReferenceIdeal.Value.rW1 B = fun k g f => A (Proc.devRef .tc Cert.KernelIdeal.main_arg2) (ix3 k g f) := by
    funext k g f; exact h2 _
  have e3 : Cert.ReferenceIdeal.Value.rb1 B = fun f => A (Proc.devRef .tc Cert.KernelIdeal.main_arg3) (ix1 f) := by funext f; exact h3 _
  have e4 : Cert.ReferenceIdeal.Value.rW2 B = fun k g f => A (Proc.devRef .tc Cert.KernelIdeal.main_arg4) (ix3 k g f) := by
    funext k g f; exact h4 _
  have e5 : Cert.ReferenceIdeal.Value.rb2 B = fun f => A (Proc.devRef .tc Cert.KernelIdeal.main_arg5) (ix1 f) := by funext f; exact h5 _
  have e6 : Cert.ReferenceIdeal.Value.rW3 B = fun k g f => A (Proc.devRef .tc Cert.KernelIdeal.main_arg6) (ix3 k g f) := by
    funext k g f; exact h6 _
  have e7 : Cert.ReferenceIdeal.Value.rb3 B = fun f => A (Proc.devRef .tc Cert.KernelIdeal.main_arg7) (ix1 f) := by funext f; exact h7 _
  have e : Cert.ReferenceIdeal.Value.rH3 B = Cert.KernelIdeal.kH3 A := by
    unfold Cert.ReferenceIdeal.Value.rH3 Cert.ReferenceIdeal.Value.rH2 Cert.ReferenceIdeal.Value.rH1
    rw [e0, e1, e2, e3, e4, e5, e6, e7]
    rfl
  funext b k
  unfold Cert.ReferenceIdeal.Value.rZ Cert.KernelIdeal.kZ
  rw [e]
  refine congrArg₂ (fun x y : EReal => x + y) (Finset.sum_congr rfl fun j _ => ?_) (h9 _)
  exact congrArg (fun y : EReal => Cert.KernelIdeal.kH3 A b _ _ * y) (h8 _)

/-- The head's entries are real when the arguments are. -/
theorem logits_real (A : Valuation Cert.KernelIdeal.τ Cert.KernelIdeal.sig (Elt Ideal))
    (h0 : ∀ i : Cert.KernelIdeal.S8x4096x1.Idx, Real (A (Proc.devRef .tc Cert.KernelIdeal.main_arg0) i))
    (h1 : ∀ i : Cert.KernelIdeal.S4096x4096.Idx, Real (A (Proc.devRef .tc Cert.KernelIdeal.main_arg1) i))
    (h2 : ∀ i : Cert.KernelIdeal.S5x1x10.Idx, Real (A (Proc.devRef .tc Cert.KernelIdeal.main_arg2) i))
    (h3 : ∀ i : Cert.KernelIdeal.S10.Idx, Real (A (Proc.devRef .tc Cert.KernelIdeal.main_arg3) i))
    (h4 : ∀ i : Cert.KernelIdeal.S5x10x10.Idx, Real (A (Proc.devRef .tc Cert.KernelIdeal.main_arg4) i))
    (h5 : ∀ i : Cert.KernelIdeal.S10.Idx, Real (A (Proc.devRef .tc Cert.KernelIdeal.main_arg5) i))
    (h6 : ∀ i : Cert.KernelIdeal.S5x10x10.Idx, Real (A (Proc.devRef .tc Cert.KernelIdeal.main_arg6) i))
    (h7 : ∀ i : Cert.KernelIdeal.S10.Idx, Real (A (Proc.devRef .tc Cert.KernelIdeal.main_arg7) i))
    (h8 : ∀ i : Cert.KernelIdeal.S40960x10.Idx, Real (A (Proc.devRef .tc Cert.KernelIdeal.main_arg8) i))
    (h9 : ∀ i : Cert.KernelIdeal.S10.Idx, Real (A (Proc.devRef .tc Cert.KernelIdeal.main_arg9) i)) (b : Fin 8) (k : Fin 10) :
    Real (Cert.KernelIdeal.kZ A b k) := by
  have hL : ∀ n m, Real (Cert.KernelIdeal.kL A n m) := fun n m => h1 _
  have r1 : ∀ b n f, Real (Cert.KernelIdeal.kH1 A b n f) :=
    real_conv real_two hL (fun _ _ _ => h2 _) (fun _ => h3 _) fun _ _ _ => h0 _
  have r2 : ∀ b n f, Real (Cert.KernelIdeal.kH2 A b n f) := real_conv real_two hL (fun _ _ _ => h4 _) (fun _ => h5 _) r1
  have r3 : ∀ b n f, Real (Cert.KernelIdeal.kH3 A b n f) := real_conv real_two hL (fun _ _ _ => h6 _) (fun _ => h7 _) r2
  exact real_add (real_sum _ _ fun j => real_mul (r3 _ _ _) (h8 _)) (h9 _)

/-- The two results of one core, from equal arguments under the precondition. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_graph m) (c : Dev Cert.KernelIdeal.nD)
    (hargs : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (b : Fin 8) (k : Fin 10) :
    Cert.ReferenceIdeal.Value.result (launchContents m' c) (ix2 b k)
      = Cert.KernelIdeal.X6 m c (Proc.devRef .tc Cert.KernelIdeal.main_v0) (ix2 b k) := by
  have hp := hpre c
  obtain ⟨⟨hs, k0, k1, k2, k3⟩, k4, k5, k6, k7, k8, k9⟩ := Cert.Pre_graph.decode _ _ _ _ _ _ _ _ _ _ hp
  obtain ⟨a0, a1, a2, a3, a4, a5, a6, a7, a8, a9⟩ := hargs
  have hz := logits_agree (Cert.KernelIdeal.Gen.V0 m c) (launchContents m' c)
    (fun i => congrFun a0 i) (fun i => congrFun a1 i) (fun i => congrFun a2 i) (fun i => congrFun a3 i) (fun i => congrFun a4 i)
    (fun i => congrFun a5 i) (fun i => congrFun a6 i) (fun i => congrFun a7 i) (fun i => congrFun a8 i) (fun i => congrFun a9 i)
  have hr := logits_real (Cert.KernelIdeal.Gen.V0 m c) k0 k1 k2 k3 k4 k5 k6 k7 k8 k9
  refine (Cert.ReferenceIdeal.Value.result_apply _ b k).trans ?_
  rw [hz]
  exact (Cert.KernelIdeal.result_entry m c (fun n k => hs n k) hr b k).symm

/-- The value claim. -/
theorem algebraic : Cert.algebraic_KernelIdeal_ReferenceIdeal_pre_graph := by
  intro m g m' g' hpre hargs
  have hv : ∀ c : Dev Cert.ReferenceIdeal.nD, Cert.ReferenceIdeal.Value.result (launchContents m' c)
      = Cert.KernelIdeal.X6 m c (Proc.devRef .tc Cert.KernelIdeal.main_v0) := fun c => by
    have h : ∀ y : Cert.ReferenceIdeal.S8x10.Idx, Cert.ReferenceIdeal.Value.result (launchContents m' c) y
        = Cert.KernelIdeal.X6 m c (Proc.devRef .tc Cert.KernelIdeal.main_v0) y := by
      intro y
      obtain ⟨b, k, rfl⟩ : ∃ (b : Fin 8) (k : Fin 10), y = ix2 b k := ⟨y 0, y 1, by funext a; fin_cases a <;> rfl⟩
      exact results_agree m m' hpre c (hargs c) b k
    exact funext h
  have hk := Cert.KernelIdeal.value (F := Ideal) m g
  have hr := Cert.ReferenceIdeal.Value.run (F := Ideal) m' g'
  refine ⟨fun c => Cert.KernelIdeal.X6 m c (Proc.devRef .tc Cert.KernelIdeal.main_v0), hk, ?_⟩
  refine (θ_run _ _ _).mono (fun r h c => ?_) hr
  have hc := h c
  refine ⟨?_, hc.2⟩
  exact hc.1.trans (hv c)

end Cert.Proof

end
-- ==== Proof.lean ====
/- The certificate's claims, put together from the modules that prove them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_graph
public import proofs.«01_k».proof.Proof.Gen.ReferenceIdeal.Run
public import proofs.«01_k».proof.Proof.Kernel.Run
public import proofs.«01_k».proof.Proof.KernelIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_graph.Gen.facts,
  frame_kernel, frame_ideal, fun m g _ => frame_ideal m g trivial, frame_reference, fun m g _ => frame_reference m g trivial, trivial, algebraic⟩

end Cert.Proof

end
